-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S2x128x768 : Shape := ⟨3, ![2, 128, 768]⟩
abbrev S196608x3 : Shape := ⟨2, ![196608, 3]⟩
abbrev S64x768 : Shape := ⟨2, ![64, 768]⟩
abbrev S12x64 : Shape := ⟨2, ![12, 64]⟩
abbrev S1x64 : Shape := ⟨2, ![1, 64]⟩
abbrev S_ : Shape := ⟨0, ![]⟩

class Facts : Prop where
  bcast_S_S196608x3 : S_.BroadcastsInDim S196608x3 (![] : Fin 0 → Fin S196608x3.rank)
  reducesTo_S196608x3_S_d0_1 : S196608x3.ReducesTo [0, 1] S_
  h_S_ : 0 < S_.numel

variable [Facts]

def fn {F : FTy → Type} [FloatOps F] (main_arg0 : FVec F S2x128x768 .f32) (main_arg1 : IVec S196608x3 32) (main_arg2 : FVec F S64x768 .f32) (main_arg3 : FVec F S64x768 .f32) (main_arg4 : FVec F S12x64 .f32) (main_arg5 : FVec F S1x64 .f32) : IVec S_ 1 :=
  let main_c : IVec S_ 32 := constantI S_ 32 0#32
  let main_v0 : IVec S196608x3 32 := broadcastInDim S196608x3 ![] bcast_S_S196608x3 main_c
  let main_v1 : IVec S196608x3 1 := cmpi .sge main_arg1 main_v0
  let main_c_0 : IVec S_ 32 := constantI S_ 32 12#32
  let main_v2 : IVec S196608x3 32 := broadcastInDim S196608x3 ![] bcast_S_S196608x3 main_c_0
  let main_v3 : IVec S196608x3 1 := cmpi .slt main_arg1 main_v2
  let main_v4 : IVec S196608x3 1 := andi main_v1 main_v3
  let main_c_1 : IVec S_ 1 := constantI S_ 1 1#1
  let main_v5 : IVec S_ 1 := (fun x v => Host.reduce IntOp.andi x v reducesTo_S196608x3_S_d0_1 h_S_) main_v4 main_c_1
  main_v5
-- ==== Kernel.lean ====
abbrev S2x128x768 : Shape := ⟨3, ![2, 128, 768]⟩
abbrev S196608x3 : Shape := ⟨2, ![196608, 3]⟩
abbrev S64x768 : Shape := ⟨2, ![64, 768]⟩
abbrev S12x64 : Shape := ⟨2, ![12, 64]⟩
abbrev S1x64 : Shape := ⟨2, ![1, 64]⟩
abbrev S2x256x16 : Shape := ⟨3, ![2, 256, 16]⟩
abbrev S2x16x768 : Shape := ⟨3, ![2, 16, 768]⟩
abbrev S32x768 : Shape := ⟨2, ![32, 768]⟩
abbrev S32x64 : Shape := ⟨2, ![32, 64]⟩
abbrev S4x64 : Shape := ⟨2, ![4, 64]⟩
abbrev S16x64 : Shape := ⟨2, ![16, 64]⟩
abbrev S16x1x64 : Shape := ⟨3, ![16, 1, 64]⟩
abbrev S16x16x64 : Shape := ⟨3, ![16, 16, 64]⟩
abbrev S1x16x64 : Shape := ⟨3, ![1, 16, 64]⟩
abbrev S256x64 : Shape := ⟨2, ![256, 64]⟩
abbrev S256x16 : Shape := ⟨2, ![256, 16]⟩
abbrev S1x256x16 : Shape := ⟨3, ![1, 256, 16]⟩
abbrev S196608x1 : Shape := ⟨2, ![196608, 1]⟩
abbrev S196608 : Shape := ⟨1, ![196608]⟩
abbrev S_ : Shape := ⟨0, ![]⟩
abbrev S8192 : Shape := ⟨1, ![8192]⟩
abbrev S393216 : Shape := ⟨1, ![393216]⟩
abbrev S6144 : Shape := ⟨1, ![6144]⟩
abbrev S16 : Shape := ⟨1, ![16]⟩
abbrev S2x12x128x128 : Shape := ⟨4, ![2, 12, 128, 128]⟩

abbrev nBuf : Table → Nat
  | .hbm => 24
  | .local .tc .vmem => 6
  | .local .scVector .vmem => 4
  | _ => 0

abbrev bufTy : (tb : Table) → Fin (nBuf tb) → BufTy
  | .hbm, ⟨0, _⟩ => ⟨S2x128x768, .f32⟩
  | .hbm, ⟨1, _⟩ => ⟨S196608x3, .i32⟩
  | .hbm, ⟨2, _⟩ => ⟨S64x768, .f32⟩
  | .hbm, ⟨3, _⟩ => ⟨S64x768, .f32⟩
  | .hbm, ⟨4, _⟩ => ⟨S12x64, .f32⟩
  | .hbm, ⟨5, _⟩ => ⟨S1x64, .f32⟩
  | .hbm, ⟨6, _⟩ => ⟨S2x256x16, .f32⟩
  | .hbm, ⟨7, _⟩ => ⟨S196608x1, .i32⟩
  | .hbm, ⟨8, _⟩ => ⟨S196608, .i32⟩
  | .hbm, ⟨9, _⟩ => ⟨S_, .i32⟩
  | .hbm, ⟨10, _⟩ => ⟨S196608, .i32⟩
  | .hbm, ⟨11, _⟩ => ⟨S196608, .i32⟩
  | .hbm, ⟨12, _⟩ => ⟨S196608x1, .i32⟩
  | .hbm, ⟨13, _⟩ => ⟨S196608, .i32⟩
  | .hbm, ⟨14, _⟩ => ⟨S_, .i32⟩
  | .hbm, ⟨15, _⟩ => ⟨S196608, .i32⟩
  | .hbm, ⟨16, _⟩ => ⟨S196608, .i32⟩
  | .hbm, ⟨17, _⟩ => ⟨S196608, .i32⟩
  | .hbm, ⟨18, _⟩ => ⟨S196608x1, .i32⟩
  | .hbm, ⟨19, _⟩ => ⟨S196608, .i32⟩
  | .hbm, ⟨20, _⟩ => ⟨S196608, .i32⟩
  | .hbm, ⟨21, _⟩ => ⟨S8192, .f32⟩
  | .hbm, ⟨22, _⟩ => ⟨S393216, .f32⟩
  | .hbm, ⟨23, _⟩ => ⟨S2x12x128x128, .f32⟩
  | .local .tc .vmem, ⟨0, _⟩ => ⟨S2x16x768, .f32⟩
  | .local .tc .vmem, ⟨1, _⟩ => ⟨S64x768, .f32⟩
  | .local .tc .vmem, ⟨2, _⟩ => ⟨S64x768, .f32⟩
  | .local .tc .vmem, ⟨3, _⟩ => ⟨S12x64, .f32⟩
  | .local .tc .vmem, ⟨4, _⟩ => ⟨S1x64, .f32⟩
  | .local .tc .vmem, ⟨5, _⟩ => ⟨S2x256x16, .f32⟩
  | .local .scVector .vmem, ⟨0, _⟩ => ⟨S6144, .i32⟩
  | .local .scVector .vmem, ⟨1, _⟩ => ⟨S8192, .f32⟩
  | .local .scVector .vmem, ⟨2, _⟩ => ⟨S6144, .f32⟩
  | .local .scVector .vmem, ⟨3, _⟩ => ⟨S6144, .f32⟩
  | _, _ => ⟨S2x128x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => false
  | ⟨7, _⟩ => false
  | ⟨8, _⟩ => false
  | ⟨9, _⟩ => false
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v12_scv : Ref sig .scVector := ⟨.hbm, 20, rfl⟩
abbrev main_v13_scv : Ref sig .scVector := ⟨.hbm, 21, rfl⟩
abbrev main_v14_scv : Ref sig .scVector := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x16x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S12x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x256x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  ![v2.toNat]
@[reducible] def k1_t1_loop : Scf.Loop 32 :=
  let c0_i32 : BitVec 32 := 0#32
  let c384_i32 : BitVec 32 := 384#32
  let v3 : BitVec 32 := Scalar.addi c0_i32 c384_i32
  let c1_i32 : BitVec 32 := 1#32
  ⟨c0_i32, v3, c1_i32⟩
def k1_off2 (k1_t1 : Fin k1_t1_loop.trips) : Fin 1 → Nat :=
  let c0_i32_2 : BitVec 32 := 0#32
  let c0_i32 : BitVec 32 := 0#32
  let c1_i32 : BitVec 32 := 1#32
  let arg9 : BitVec 32 := Scf.iv c0_i32 c1_i32 k1_t1
  let c1_i32_1 : BitVec 32 := 1#32
  let v5 : BitVec 32 := Scalar.muli arg9 c1_i32_1
  let v6 : BitVec 32 := Scalar.addi c0_i32_2 v5
  let c16_i32 : BitVec 32 := 16#32
  let v7 : BitVec 32 := Scalar.muli v6 c16_i32
  let v8 : Index := Scalar.indexCast v7
  ![v8.toNat]

def k1_chk1 (v9 : IVec S16 32) : Prop :=
  (∀ a x, ((![v9] : Fin 1 → IVec S16 32) a x).toNat < S8192.size a)
theorem k1_idx1_inb : ∀ (v9 : IVec S16 32) (k1_hw1 : k1_chk1 v9), ∀ a x, ((![v9] : Fin 1 → IVec S16 32) a x).toNat < S8192.size a := fun v9 k1_hw1 => k1_hw1
def k1_off3 (k1_t1 : Fin k1_t1_loop.trips) : Fin 1 → Nat :=
  let c0_i32_2 : BitVec 32 := 0#32
  let c0_i32 : BitVec 32 := 0#32
  let c1_i32 : BitVec 32 := 1#32
  let arg9 : BitVec 32 := Scf.iv c0_i32 c1_i32 k1_t1
  let c1_i32_1 : BitVec 32 := 1#32
  let v5 : BitVec 32 := Scalar.muli arg9 c1_i32_1
  let v6 : BitVec 32 := Scalar.addi c0_i32_2 v5
  let c16_i32 : BitVec 32 := 16#32
  let v7 : BitVec 32 := Scalar.muli v6 c16_i32
  let v11 : Index := Scalar.indexCast v7
  ![v11.toNat]

def k1_chk2 (v14 : IVec S16 32) : Prop :=
  (∀ a x, ((![v14] : Fin 1 → IVec S16 32) a x).toNat < S8192.size a)
theorem k1_idx2_inb : ∀ (v14 : IVec S16 32) (k1_hw2 : k1_chk2 v14), ∀ a x, ((![v14] : Fin 1 → IVec S16 32) a x).toNat < S8192.size a := fun v14 k1_hw2 => k1_hw2
def k1_off4 (k1_t1 : Fin k1_t1_loop.trips) : Fin 1 → Nat :=
  let c0_i32_2 : BitVec 32 := 0#32
  let c0_i32 : BitVec 32 := 0#32
  let c1_i32 : BitVec 32 := 1#32
  let arg9 : BitVec 32 := Scf.iv c0_i32 c1_i32 k1_t1
  let c1_i32_1 : BitVec 32 := 1#32
  let v5 : BitVec 32 := Scalar.muli arg9 c1_i32_1
  let v6 : BitVec 32 := Scalar.addi c0_i32_2 v5
  let c16_i32 : BitVec 32 := 16#32
  let v7 : BitVec 32 := Scalar.muli v6 c16_i32
  let v16 : Index := Scalar.indexCast v7
  ![v16.toNat]
def k1_off5 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  ![v2.toNat]
def k1_off6 (i : grid1.Coords) : Fin 1 → Nat :=
  let c196608_i32 : BitVec 32 := 196608#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c6144_i32 : BitVec 32 := 6144#32
  let v2 : BitVec 32 := Scalar.muli v1 c6144_i32
  let v4 : BitVec 32 := Scalar.addi c196608_i32 v2
  ![v4.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x128x768 : Shape := ⟨3, ![2, 128, 768]⟩
abbrev S196608x3 : Shape := ⟨2, ![196608, 3]⟩
abbrev S64x768 : Shape := ⟨2, ![64, 768]⟩
abbrev S12x64 : Shape := ⟨2, ![12, 64]⟩
abbrev S1x64 : Shape := ⟨2, ![1, 64]⟩
abbrev S768x64 : Shape := ⟨2, ![768, 64]⟩
abbrev S2x128x64 : Shape := ⟨3, ![2, 128, 64]⟩
abbrev S196608x1 : Shape := ⟨2, ![196608, 1]⟩
abbrev S196608 : Shape := ⟨1, ![196608]⟩
abbrev S_ : Shape := ⟨0, ![]⟩
abbrev S1 : Shape := ⟨1, ![1]⟩
abbrev S1x1 : Shape := ⟨2, ![1, 1]⟩
abbrev S2x196608x64 : Shape := ⟨3, ![2, 196608, 64]⟩
abbrev S196608x64 : Shape := ⟨2, ![196608, 64]⟩
abbrev S1x196608x64 : Shape := ⟨3, ![1, 196608, 64]⟩
abbrev S64x1 : Shape := ⟨2, ![64, 1]⟩
abbrev S2x196608x1 : Shape := ⟨3, ![2, 196608, 1]⟩
abbrev S2x12x128x128x1 : Shape := ⟨5, ![2, 12, 128, 128, 1]⟩
abbrev S2x12x128x128 : Shape := ⟨4, ![2, 12, 128, 128]⟩

abbrev nBuf : Space → Nat
  | .hbm => 93
  | .vmem => 0
  | .smem => 0
  | _ => 0

abbrev bufTy : (tb : Table) → Fin (tcTables nBuf tb) → BufTy
  | .hbm, ⟨0, _⟩ => ⟨S2x128x768, .f32⟩
  | .hbm, ⟨1, _⟩ => ⟨S196608x3, .i32⟩
  | .hbm, ⟨2, _⟩ => ⟨S64x768, .f32⟩
  | .hbm, ⟨3, _⟩ => ⟨S64x768, .f32⟩
  | .hbm, ⟨4, _⟩ => ⟨S12x64, .f32⟩
  | .hbm, ⟨5, _⟩ => ⟨S1x64, .f32⟩
  | .hbm, ⟨6, _⟩ => ⟨S768x64, .f32⟩
  | .hbm, ⟨7, _⟩ => ⟨S2x128x64, .f32⟩
  | .hbm, ⟨8, _⟩ => ⟨S768x64, .f32⟩
  | .hbm, ⟨9, _⟩ => ⟨S2x128x64, .f32⟩
  | .hbm, ⟨10, _⟩ => ⟨S196608x1, .i32⟩
  | .hbm, ⟨11, _⟩ => ⟨S196608, .i32⟩
  | .hbm, ⟨12, _⟩ => ⟨S196608x1, .i32⟩
  | .hbm, ⟨13, _⟩ => ⟨S196608, .i32⟩
  | .hbm, ⟨14, _⟩ => ⟨S196608x1, .i32⟩
  | .hbm, ⟨15, _⟩ => ⟨S196608, .i32⟩
  | .hbm, ⟨16, _⟩ => ⟨S_, .i32⟩
  | .hbm, ⟨17, _⟩ => ⟨S196608, .i32⟩
  | .hbm, ⟨18, _⟩ => ⟨S196608, .i1⟩
  | .hbm, ⟨19, _⟩ => ⟨S_, .i32⟩
  | .hbm, ⟨20, _⟩ => ⟨S196608, .i32⟩
  | .hbm, ⟨21, _⟩ => ⟨S196608, .i32⟩
  | .hbm, ⟨22, _⟩ => ⟨S196608, .i32⟩
  | .hbm, ⟨23, _⟩ => ⟨S196608x1, .i32⟩
  | .hbm, ⟨24, _⟩ => ⟨S1, .i32⟩
  | .hbm, ⟨25, _⟩ => ⟨S_, .i32⟩
  | .hbm, ⟨26, _⟩ => ⟨S196608x1, .i32⟩
  | .hbm, ⟨27, _⟩ => ⟨S196608x1, .i1⟩
  | .hbm, ⟨28, _⟩ => ⟨S1x1, .i32⟩
  | .hbm, ⟨29, _⟩ => ⟨S196608x1, .i32⟩
  | .hbm, ⟨30, _⟩ => ⟨S196608x1, .i1⟩
  | .hbm, ⟨31, _⟩ => ⟨S196608x1, .i1⟩
  | .hbm, ⟨32, _⟩ => ⟨S_, .i1⟩
  | .hbm, ⟨33, _⟩ => ⟨S196608, .i1⟩
  | .hbm, ⟨34, _⟩ => ⟨S2x196608x64, .f32⟩
  | .hbm, ⟨35, _⟩ => ⟨S2x196608x64, .i1⟩
  | .hbm, ⟨36, _⟩ => ⟨S_, .f32⟩
  | .hbm, ⟨37, _⟩ => ⟨S2x196608x64, .f32⟩
  | .hbm, ⟨38, _⟩ => ⟨S2x196608x64, .f32⟩
  | .hbm, ⟨39, _⟩ => ⟨S_, .i32⟩
  | .hbm, ⟨40, _⟩ => ⟨S196608, .i32⟩
  | .hbm, ⟨41, _⟩ => ⟨S196608, .i1⟩
  | .hbm, ⟨42, _⟩ => ⟨S_, .i32⟩
  | .hbm, ⟨43, _⟩ => ⟨S196608, .i32⟩
  | .hbm, ⟨44, _⟩ => ⟨S196608, .i32⟩
  | .hbm, ⟨45, _⟩ => ⟨S196608, .i32⟩
  | .hbm, ⟨46, _⟩ => ⟨S196608x1, .i32⟩
  | .hbm, ⟨47, _⟩ => ⟨S1, .i32⟩
  | .hbm, ⟨48, _⟩ => ⟨S_, .i32⟩
  | .hbm, ⟨49, _⟩ => ⟨S196608x1, .i32⟩
  | .hbm, ⟨50, _⟩ => ⟨S196608x1, .i1⟩
  | .hbm, ⟨51, _⟩ => ⟨S1x1, .i32⟩
  | .hbm, ⟨52, _⟩ => ⟨S196608x1, .i32⟩
  | .hbm, ⟨53, _⟩ => ⟨S196608x1, .i1⟩
  | .hbm, ⟨54, _⟩ => ⟨S196608x1, .i1⟩
  | .hbm, ⟨55, _⟩ => ⟨S_, .i1⟩
  | .hbm, ⟨56, _⟩ => ⟨S196608, .i1⟩
  | .hbm, ⟨57, _⟩ => ⟨S2x196608x64, .f32⟩
  | .hbm, ⟨58, _⟩ => ⟨S2x196608x64, .i1⟩
  | .hbm, ⟨59, _⟩ => ⟨S_, .f32⟩
  | .hbm, ⟨60, _⟩ => ⟨S2x196608x64, .f32⟩
  | .hbm, ⟨61, _⟩ => ⟨S2x196608x64, .f32⟩
  | .hbm, ⟨62, _⟩ => ⟨S_, .i32⟩
  | .hbm, ⟨63, _⟩ => ⟨S196608, .i32⟩
  | .hbm, ⟨64, _⟩ => ⟨S196608, .i1⟩
  | .hbm, ⟨65, _⟩ => ⟨S_, .i32⟩
  | .hbm, ⟨66, _⟩ => ⟨S196608, .i32⟩
  | .hbm, ⟨67, _⟩ => ⟨S196608, .i32⟩
  | .hbm, ⟨68, _⟩ => ⟨S196608, .i32⟩
  | .hbm, ⟨69, _⟩ => ⟨S196608x1, .i32⟩
  | .hbm, ⟨70, _⟩ => ⟨S1, .i32⟩
  | .hbm, ⟨71, _⟩ => ⟨S_, .i32⟩
  | .hbm, ⟨72, _⟩ => ⟨S196608x1, .i32⟩
  | .hbm, ⟨73, _⟩ => ⟨S196608x1, .i1⟩
  | .hbm, ⟨74, _⟩ => ⟨S1x1, .i32⟩
  | .hbm, ⟨75, _⟩ => ⟨S196608x1, .i32⟩
  | .hbm, ⟨76, _⟩ => ⟨S196608x1, .i1⟩
  | .hbm, ⟨77, _⟩ => ⟨S196608x1, .i1⟩
  | .hbm, ⟨78, _⟩ => ⟨S_, .i1⟩
  | .hbm, ⟨79, _⟩ => ⟨S196608, .i1⟩
  | .hbm, ⟨80, _⟩ => ⟨S196608x64, .f32⟩
  | .hbm, ⟨81, _⟩ => ⟨S196608x64, .i1⟩
  | .hbm, ⟨82, _⟩ => ⟨S_, .f32⟩
  | .hbm, ⟨83, _⟩ => ⟨S196608x64, .f32⟩
  | .hbm, ⟨84, _⟩ => ⟨S196608x64, .f32⟩
  | .hbm, ⟨85, _⟩ => ⟨S1x196608x64, .f32⟩
  | .hbm, ⟨86, _⟩ => ⟨S2x196608x64, .f32⟩
  | .hbm, ⟨87, _⟩ => ⟨S2x196608x64, .f32⟩
  | .hbm, ⟨88, _⟩ => ⟨S2x196608x64, .f32⟩
  | .hbm, ⟨89, _⟩ => ⟨S64x1, .f32⟩
  | .hbm, ⟨90, _⟩ => ⟨S2x196608x1, .f32⟩
  | .hbm, ⟨91, _⟩ => ⟨S2x12x128x128x1, .f32⟩
  | .hbm, ⟨92, _⟩ => ⟨S2x12x128x128, .f32⟩
  | _, _ => ⟨S2x128x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v10 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v11 : Ref sig .tc := ⟨.hbm, 61, rfl⟩
abbrev main_call2_c : Ref sig .tc := ⟨.hbm, 62, rfl⟩
abbrev main_call2_v0 : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_v5 : Ref sig .tc := ⟨.hbm, 69, rfl⟩
abbrev main_call2_c_1 : Ref sig .tc := ⟨.hbm, 70, rfl⟩
abbrev main_call2_c_2 : Ref sig .tc := ⟨.hbm, 71, rfl⟩
abbrev main_call2_v6 : Ref sig .tc := ⟨.hbm, 72, rfl⟩
abbrev main_call2_v7 : Ref sig .tc := ⟨.hbm, 73, rfl⟩
abbrev main_call2_v8 : Ref sig .tc := ⟨.hbm, 74, rfl⟩
abbrev main_call2_v9 : Ref sig .tc := ⟨.hbm, 75, rfl⟩
abbrev main_call2_v10 : Ref sig .tc := ⟨.hbm, 76, rfl⟩
abbrev main_call2_v11 : Ref sig .tc := ⟨.hbm, 77, rfl⟩
abbrev main_call2_c_3 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_call2_cst : Ref sig .tc := ⟨.hbm, 82, rfl⟩
abbrev main_call2_v15 : Ref sig .tc := ⟨.hbm, 83, rfl⟩
abbrev main_v12 : Ref sig .tc := ⟨.hbm, 84, rfl⟩
abbrev main_v13 : Ref sig .tc := ⟨.hbm, 85, rfl⟩
abbrev main_v14 : Ref sig .tc := ⟨.hbm, 86, rfl⟩
abbrev main_v15 : Ref sig .tc := ⟨.hbm, 87, rfl⟩
abbrev main_v16 : Ref sig .tc := ⟨.hbm, 88, rfl⟩
abbrev main_v17 : Ref sig .tc := ⟨.hbm, 89, rfl⟩
abbrev main_v18 : Ref sig .tc := ⟨.hbm, 90, rfl⟩
abbrev main_v19 : Ref sig .tc := ⟨.hbm, 91, rfl⟩
abbrev main_v20 : Ref sig .tc := ⟨.hbm, 92, rfl⟩

abbrev nD : Nat := 1
abbrev τ : Topo := Topo.v7x

variable {F : FTy → Type} [FloatOps F]
-- ==== Proof.Setup.lean ====
/-
  What the whole proof of the kernel's run shares: the program as the launch theorem of the SparseCore calls sees it,
  the resource algebra, the arrays the gather reads and writes, how they are divided among the thirty-two tiles, and
  the array the gather leaves.

  Tile `w = 2 * subcore + core` reads words `6144 * w … 6144 * w + 6143` of the index array, the whole table, and
  writes the same range of each half of the output (the second half begins at 196608 and reads the table 4096 further on).
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Run

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nCore_zero : (K (F := F)).nCore 0 = 2 := rfl
theorem nSub_zero : (K (F := F)).nSub 0 = 16 := rfl

/-- The launch semaphores are distinct and no kernel's own. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch handshakes' rounds, the table pipeline's rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL

/-! ## The arrays and their division among the tiles -/

abbrev iLoc (d : Dev nD) : Loc nD τ sig := (SparseCore.T d).loc main_v12
abbrev tLoc (d : Dev nD) : Loc nD τ sig := (SparseCore.T d).loc main_v13
abbrev oLoc (d : Dev nD) : Loc nD τ sig := (SparseCore.T d).loc main_v14

abbrev iM : Memref sig .scVector .hbm S196608 .i32 := Memref.whole main_v12_scv
abbrev tM : Memref sig .scVector .hbm S8192 .f32 := Memref.whole main_v13_scv
abbrev oM : Memref sig .scVector .hbm S393216 .f32 := Memref.whole main_v14_scv
abbrev sI : Memref sig .scVector .vmem S6144 .i32 := Memref.whole cc1_scratch0
abbrev sT : Memref sig .scVector .vmem S8192 .f32 := Memref.whole cc1_scratch1
abbrev sA : Memref sig .scVector .vmem S6144 .f32 := Memref.whole cc1_scratch2
abbrev sB : Memref sig .scVector .vmem S6144 .f32 := Memref.whole cc1_scratch3

theorem idiv : 32 ∣ S196608.size 0 := ⟨6144, rfl⟩
theorem odiv : 64 ∣ S393216.size 0 := ⟨6144, rfl⟩
abbrev ipart (w : Fin 32) : Rect S196608 := Rect.part (s := S196608) (a₀ := 0) idiv w
abbrev opart (w : Fin 64) : Rect S393216 := Rect.part (s := S393216) (a₀ := 0) odiv w
abbrev iSet (w : Fin 32) : Finset S196608.Idx := (iM.view.slice (ipart w)).set
abbrev oSet (w : Fin 64) : Finset S393216.Idx := (oM.view.slice (opart w)).set

/-- The tile's number, its two ranges of the output, from its SparseCore and its subcore. -/
abbrev tileNo (c : Fin 2) (s : Fin 16) : Fin 32 := ⟨2 * s.val + c.val, by omega⟩
abbrev loPart (w : Fin 32) : Fin 64 := ⟨w.val, by omega⟩
abbrev hiPart (w : Fin 32) : Fin 64 := ⟨32 + w.val, by omega⟩

/-- The share of the table a tile reads under: the full share dealt among the thirty-two. -/
abbrev tq (w : Fin 32) : PosShare TreeShare := Transfers.dealOf fullShare (Finset.univ : Finset (Fin 32)) w

/-! ## What the gather leaves -/

/-- Entry `k` of the table (`k` below its length is the index itself). -/
def tabIx (k : ℕ) : S8192.Idx := fun a => ⟨k % S8192.size a, Nat.mod_lt _ (by have : a = 0 := Subsingleton.elim _ _; subst this; decide)⟩
/-- Entry `k` of the index array. -/
def idxIx (k : ℕ) : S196608.Idx := fun a => ⟨k % S196608.size a, Nat.mod_lt _ (by have : a = 0 := Subsingleton.elim _ _; subst this; decide)⟩

/-- The gathered array: entry `n` of the first half is the table at index word `n`, of the second half the table 4096
    further on. -/
def gathered (iv : S196608.Idx → BitVec 32) (tv : S8192.Idx → F .f32) : S393216.Idx → F .f32 := fun n =>
  if (n 0).val < 196608 then tv (tabIx (iv (idxIx (n 0).val)).toNat)
  else tv (tabIx ((iv (idxIx ((n 0).val - 196608))).toNat + 4096))

/-- What tile `w` holds: its range of the index array, its share of the table, its two ranges of the output at `f`. -/
abbrev tilePts (iv : (d : Dev nD) → Buf (Elt F) (iLoc d)) (tv : (d : Dev nD) → Buf (Elt F) (tLoc d)) (d : Dev nD) (w : Fin 32) (f : Buf (Elt F) (oLoc d)) : sProp 𝕄 :=
  iprop((iLoc d ↦[iSet w]{fullShare} iv d) ∗ (tLoc d ↦{tq w} tv d) ∗ (oLoc d ↦[oSet (loPart w)]{fullShare} f) ∗ (oLoc d ↦[oSet (hiPart w)]{fullShare} f))

end Cert.Proof.Run

end
-- ==== Proof.Tile.lean ====
/-
  One tile of the gather, on any SparseCore and subcore: it copies the table and its 6144 index words into its own
  memory, walks the words sixteen at a time, reading the table at each word and 4096 further on, and copies the two
  rows of results out. The loop's invariant says how far the two rows hold the table's entries.
-/
module

public import proofs.«01_k».proof.Proof.Setup

@[expose] public section

noncomputable section

namespace Cert.Proof.Run

open Cert.KernelIdeal Cert.KernelIdeal.Gen

open Idealize.ShloMosaic
open Idealize.ShloMosaic.SparseCore (S V)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Tile

variable (iv : (d : Dev nD) → Buf (Elt F) (iLoc d)) (tv : (d : Dev nD) → Buf (Elt F) (tLoc d)) (ov : (d : Dev nD) → Buf (Elt F) (oLoc d))
variable (d : Dev nD) (L : grid1.Coords)

abbrev cV (L : grid1.Coords) : Fin τ.nSC := (L 0).castLE hcore1
abbrev jV (L : grid1.Coords) : Fin τ.nSub := (L 1).castLE hsub1
theorem bound_zero : grid1.bound 0 = 2 := rfl
theorem bound_one : grid1.bound 1 = 16 := rfl
/-- The number of the tile at coordinates `L`. -/
abbrev wL (L : grid1.Coords) : Fin 32 := tileNo (Fin.cast bound_zero (L 0)) (Fin.cast bound_one (L 1))

/-- The tile's ranges of the index array and of the output, as the program slices them. -/
abbrev iRectK (L : grid1.Coords) : Rect S196608 := Rect.unit (s := S196608) (k1_off1 L) S6144.size (k1_off1_inb L)
abbrev loRectK (L : grid1.Coords) : Rect S393216 := Rect.unit (s := S393216) (k1_off5 L) S6144.size (k1_off5_inb L)
abbrev hiRectK (L : grid1.Coords) : Rect S393216 := Rect.unit (s := S393216) (k1_off6 L) S6144.size (k1_off6_inb L)
abbrev iK (L : grid1.Coords) : Memref sig .scVector .hbm S6144 .i32 := iM.slice (iRectK L) (fun _ => rfl)
abbrev loK (L : grid1.Coords) : Memref sig .scVector .hbm S6144 .f32 := oM.slice (loRectK L) (fun _ => rfl)
abbrev hiK (L : grid1.Coords) : Memref sig .scVector .hbm S6144 .f32 := oM.slice (hiRectK L) (fun _ => rfl)

theorem iRectK_eq : iRectK L = ipart (wL L) := by
  unfold iRectK ipart Rect.part Rect.block
  congr 1 <;> funext a <;> obtain rfl : a = 0 := Subsingleton.elim _ _
  · rw [k1_off1_eq]; show 12288 * (L 1).val + 6144 * (L 0).val = (2 * (L 1).val + (L 0).val) * (196608 / 32); omega
  · simp [Shape.partSize]
theorem loRectK_eq : loRectK L = opart (loPart (wL L)) := by
  unfold loRectK opart Rect.part Rect.block
  congr 1 <;> funext a <;> obtain rfl : a = 0 := Subsingleton.elim _ _
  · rw [k1_off5_eq]; show 12288 * (L 1).val + 6144 * (L 0).val = (2 * (L 1).val + (L 0).val) * (393216 / 64); omega
  · simp [Shape.partSize]
theorem hiRectK_eq : hiRectK L = opart (hiPart (wL L)) := by
  unfold hiRectK opart Rect.part Rect.block
  congr 1 <;> funext a <;> obtain rfl : a = 0 := Subsingleton.elim _ _
  · rw [k1_off6_eq]; show 12288 * (L 1).val + 6144 * (L 0).val + 196608 = (32 + (2 * (L 1).val + (L 0).val)) * (393216 / 64); omega
  · simp [Shape.partSize]

theorem set_iK : (iK L).view.set = iSet (wL L) := by
  show (iM.view.slice (iRectK L)).set = (iM.view.slice (ipart (wL L))).set
  exact iRectK_eq L ▸ rfl
theorem set_loK : (loK L).view.set = oSet (loPart (wL L)) := by
  show (oM.view.slice (loRectK L)).set = (oM.view.slice (opart (loPart (wL L)))).set
  exact loRectK_eq L ▸ rfl
theorem set_hiK : (hiK L).view.set = oSet (hiPart (wL L)) := by
  show (oM.view.slice (hiRectK L)).set = (oM.view.slice (opart (hiPart (wL L)))).set
  exact hiRectK_eq L ▸ rfl

theorem pts_iK (f : Buf (Elt F) (iLoc d)) :
    ((iK L).view.loc (V d (cV L) (jV L)) ↦[(iK L).view.set]{fullShare} f : sProp 𝕄) = iLoc d ↦[iSet (wL L)]{fullShare} f := by
  rw [set_iK]
theorem pts_loK (f : Buf (Elt F) (oLoc d)) :
    ((loK L).view.loc (V d (cV L) (jV L)) ↦[(loK L).view.set]{fullShare} f : sProp 𝕄) = oLoc d ↦[oSet (loPart (wL L))]{fullShare} f := by
  rw [set_loK]
theorem pts_hiK (f : Buf (Elt F) (oLoc d)) :
    ((hiK L).view.loc (V d (cV L) (jV L)) ↦[(hiK L).view.set]{fullShare} f : sProp 𝕄) = oLoc d ↦[oSet (hiPart (wL L))]{fullShare} f := by
  rw [set_hiK]
theorem pts_tM (q : PosShare TreeShare) (f : Buf (Elt F) (tLoc d)) :
    (tM.view.loc (V d (cV L) (jV L)) ↦{q} f : sProp 𝕄) = tLoc d ↦{q} f := rfl

/-- The four semaphores of the tile's copies. -/
abbrev cell0 (d : Dev nD) (c : Fin τ.nSC) (i : Fin τ.nSub) : GSem nD τ sig := (V d c i, .dma cc1_scoped0.sem)
abbrev cell1 (d : Dev nD) (c : Fin τ.nSC) (i : Fin τ.nSub) : GSem nD τ sig := (V d c i, .dma cc1_scoped1.sem)
abbrev cell2 (d : Dev nD) (c : Fin τ.nSC) (i : Fin τ.nSub) : GSem nD τ sig := (V d c i, .dma cc1_scoped2.sem)
abbrev cell3 (d : Dev nD) (c : Fin τ.nSC) (i : Fin τ.nSub) : GSem nD τ sig := (V d c i, .dma cc1_scoped3.sem)

/-- The tile's semaphores are those four and the rest. -/
theorem ownSems_tile :
    (ownSems0 (V d (cV L) (jV L)) : sProp 𝕄)
      = iprop(semVal (cell0 d (cV L) (jV L)) 0 ∗ semVal (cell1 d (cV L) (jV L)) 0 ∗ semVal (cell2 d (cV L) (jV L)) 0 ∗ semVal (cell3 d (cV L) (jV L)) 0
          ∗ bigSep (((((ownCells (V d (cV L) (jV L))).erase (cell0 d (cV L) (jV L))).erase (cell1 d (cV L) (jV L))).erase (cell2 d (cV L) (jV L))).erase
              (cell3 d (cV L) (jV L))) fun g => semVal g 0) := by
  have own (s : DmaSem sig) (h : (SemLoc.dma s : SemLoc sig).isScoped .scVector = true) :
      ((V d (cV L) (jV L), .dma s) : GSem nD τ sig) ∈ ownCells (V d (cV L) (jV L)) := mem_ownCells.mpr ⟨rfl, h⟩
  have ne {s t : DmaSem sig} (h : s ≠ t) : ((V d (cV L) (jV L), .dma s) : GSem nD τ sig) ≠ (V d (cV L) (jV L), .dma t) := fun e =>
    h (by injection e with _ e; injection e)
  unfold SparseCore.Cfg.ownSems0
  rw [SparseCore.bigSep_erase' (own cc1_scoped0.sem (by decide)),
    SparseCore.bigSep_erase' (Finset.mem_erase.mpr ⟨ne (by decide), own cc1_scoped1.sem (by decide)⟩),
    SparseCore.bigSep_erase' (Finset.mem_erase.mpr ⟨ne (by decide), Finset.mem_erase.mpr ⟨ne (by decide), own cc1_scoped2.sem (by decide)⟩⟩),
    SparseCore.bigSep_erase' (Finset.mem_erase.mpr ⟨ne (by decide), Finset.mem_erase.mpr ⟨ne (by decide), Finset.mem_erase.mpr ⟨ne (by decide),
      own cc1_scoped3.sem (by decide)⟩⟩⟩)]

/-- The tile's buffers are its four, at some contents, and the rest. -/
theorem ownBufs_tile :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f) ∗ (∃ f, (V d (cV L) (jV L)).loc cc1_scratch3 ↦{fullShare} f)
          ∗ bigSep (((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2)).erase
              ((Proc.scVector (cV L) (jV L)).devRef cc1_scratch3))
              fun b => iprop(∃ f, ((d, b) : Loc nD τ sig) ↦{fullShare} f)) := by
  have ne {r r' : Ref sig .scVector} (h : r ≠ r') : (Proc.scVector (cV L) (jV L)).devRef r ≠ (Proc.scVector (cV L) (jV L)).devRef r' :=
    fun e => h (Proc.devRef_injective _ e)
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨ne (by decide),
      SparseCore.Cfg.mem_ownRefs_of_owner (p := Proc.scVector (cV L) (jV L)) (b := (Proc.scVector (cV L) (jV L)).devRef cc1_scratch1) rfl⟩),
    SparseCore.bigSep_erase' (Finset.mem_erase.mpr ⟨ne (by decide), Finset.mem_erase.mpr ⟨ne (by decide),
      SparseCore.Cfg.mem_ownRefs_of_owner (p := Proc.scVector (cV L) (jV L)) (b := (Proc.scVector (cV L) (jV L)).devRef cc1_scratch2) rfl⟩⟩),
    SparseCore.bigSep_erase' (Finset.mem_erase.mpr ⟨ne (by decide), Finset.mem_erase.mpr ⟨ne (by decide), Finset.mem_erase.mpr ⟨ne (by decide),
      SparseCore.Cfg.mem_ownRefs_of_owner (p := Proc.scVector (cV L) (jV L)) (b := (Proc.scVector (cV L) (jV L)).devRef cc1_scratch3) rfl⟩⟩⟩)]

/-! ## The words the tile reads, the rows it makes -/

/-- What the tile's index copy lands: its range of the index array. -/
def idxRow : S6144.Idx → BitVec 32 := fun j => iv d ((iRectK L).emb j)
/-- The rows the tile is to make: its two ranges of the gathered array. -/
def wantLo : S6144.Idx → F .f32 := fun j => gathered (iv d) (tv d) ((loRectK L).emb j)
def wantHi : S6144.Idx → F .f32 := fun j => gathered (iv d) (tv d) ((hiRectK L).emb j)

/-- What the proof asks of the index array: every word below 4096. -/
def InRange (iv : (d : Dev nD) → Buf (Elt F) (iLoc d)) : Prop := ∀ (d : Dev nD) (j : S196608.Idx), (iv d j : BitVec 32).toNat < 4096

theorem iRectK_emb (j : S6144.Idx) : (((iRectK L).emb j) 0).val = 12288 * (L 1).val + 6144 * (L 0).val + (j 0).val := by
  show (k1_off1 L) 0 + 1 * (j 0).val = _
  rw [k1_off1_eq, Nat.one_mul]; rfl
theorem loRectK_emb (j : S6144.Idx) : (((loRectK L).emb j) 0).val = 12288 * (L 1).val + 6144 * (L 0).val + (j 0).val := by
  show (k1_off5 L) 0 + 1 * (j 0).val = _
  rw [k1_off5_eq, Nat.one_mul]; rfl
theorem hiRectK_emb (j : S6144.Idx) : (((hiRectK L).emb j) 0).val = 12288 * (L 1).val + 6144 * (L 0).val + 196608 + (j 0).val := by
  show (k1_off6 L) 0 + 1 * (j 0).val = _
  rw [k1_off6_eq, Nat.one_mul]; rfl

theorem idxIx_emb (j : S6144.Idx) : idxIx (12288 * (L 1).val + 6144 * (L 0).val + (j 0).val) = (iRectK L).emb j := by
  funext a; obtain rfl : a = 0 := Subsingleton.elim _ _
  apply Fin.ext
  rw [iRectK_emb]
  have h0 : (L 0).val < 2 := (L 0).isLt
  have h1 : (L 1).val < 16 := (L 1).isLt
  have hj : (j 0).val < 6144 := (j 0).isLt
  show (12288 * (L 1).val + 6144 * (L 0).val + (j 0).val) % 196608 = _
  omega

theorem wantLo_eq (j : S6144.Idx) : wantLo iv tv d L j = tv d (tabIx (idxRow iv d L j).toNat) := by
  have h0 : (L 0).val < 2 := (L 0).isLt
  have h1 : (L 1).val < 16 := (L 1).isLt
  have hj : (j 0).val < 6144 := (j 0).isLt
  unfold wantLo gathered idxRow
  rw [loRectK_emb, if_pos (by omega), idxIx_emb]
theorem wantHi_eq (j : S6144.Idx) : wantHi iv tv d L j = tv d (tabIx ((idxRow iv d L j).toNat + 4096)) := by
  unfold wantHi gathered idxRow
  rw [hiRectK_emb, if_neg (by omega), show 12288 * (L 1).val + 6144 * (L 0).val + 196608 + (j 0).val - 196608
    = 12288 * (L 1).val + 6144 * (L 0).val + (j 0).val by omega, idxIx_emb]

/-- Trip `k`'s sixteen places. -/
abbrev rI (k : Fin k1_t1_loop.trips) : Rect S6144 := Rect.unit (s := S6144) (k1_off2 k) S16.size (k1_off2_inb k)
abbrev rA (k : Fin k1_t1_loop.trips) : Rect S6144 := Rect.unit (s := S6144) (k1_off3 k) S16.size (k1_off3_inb k)
abbrev rB (k : Fin k1_t1_loop.trips) : Rect S6144 := Rect.unit (s := S6144) (k1_off4 k) S16.size (k1_off4_inb k)

theorem rA_eq (k : Fin k1_t1_loop.trips) : rA k = rI k := by
  rfl
theorem rB_eq (k : Fin k1_t1_loop.trips) : rB k = rI k := by
  rfl
theorem rI_emb (k : Fin k1_t1_loop.trips) (x : S16.Idx) : (((rI k).emb x) 0).val = 16 * k.val + (x 0).val := by
  show (k1_off2 k) 0 + 1 * (x 0).val = _
  rw [k1_off2_eq, Nat.one_mul]; rfl

/-- The sixteen words trip `k` reads. -/
def words (k : Fin k1_t1_loop.trips) : IVec S16 32 := fun x => idxRow iv d L ((rI k).emb x)

theorem words_lt (hpre : InRange iv) (k : Fin k1_t1_loop.trips) (x : S16.Idx) : (words iv d L k x).toNat < 4096 := hpre d _

theorem chk1 (hpre : InRange iv) (k : Fin k1_t1_loop.trips) : k1_chk1 (words iv d L k) := by
  intro a x
  obtain rfl : a = 0 := Subsingleton.elim _ _
  exact lt_trans (words_lt iv d L hpre k x) (by decide)

theorem pay1_toNat (hpre : InRange iv) (k : Fin k1_t1_loop.trips) (x : S16.Idx) :
    (k1_pay1 (F := F) (words iv d L k) x).toNat = (words iv d L k x).toNat + 4096 := by
  have h := words_lt iv d L hpre k x
  show (words iv d L k x + 4096#32).toNat = _
  rw [BitVec.toNat_add]
  show (_ + 4096) % 4294967296 = _
  omega

theorem chk2 (hpre : InRange iv) (k : Fin k1_t1_loop.trips) : k1_chk2 (k1_pay1 (F := F) (words iv d L k)) := by
  intro a x
  obtain rfl : a = 0 := Subsingleton.elim _ _
  show (k1_pay1 (F := F) (words iv d L k) x).toNat < 8192
  have h := words_lt iv d L hpre k x
  rw [pay1_toNat iv d L hpre]; omega

/-- The table read at index words is the table's entries at them. -/
theorem loadIdx_eq (f : S8192.Idx → F .f32) (v : IVec S16 32) (h : ∀ a x, ((![v] : Fin 1 → IVec S16 32) a x).toNat < S8192.size a) (x : S16.Idx) :
    (loadIdx (e := .f32) f ![v] h : S16.Idx → F .f32) x = f (tabIx (v x).toNat) := by
  show f (idxAt ![v] h x) = _
  congr 1
  funext a; obtain rfl : a = 0 := Subsingleton.elim _ _
  apply Fin.ext
  show (v x).toNat = (v x).toNat % 8192
  exact (Nat.mod_eq_of_lt (h 0 x)).symm

/-- Storing trip `k`'s sixteen entries into a row right up to trip `k` leaves one right up to trip `k + 1`. -/
theorem row_step (v : View sig .scVector .vmem S6144 .f32) (k : Fin k1_t1_loop.trips) (f : v.ty.Contents (Elt F))
    (want : S6144.Idx → F .f32) (p : S16.Idx → F .f32) (hf : ∀ j : S6144.Idx, (j 0).val < 16 * k.val → v.read (Elt F) f j = want j)
    (hp : ∀ x, p x = want ((rI k).emb x)) :
    ∀ j : S6144.Idx, (j 0).val < 16 * (k.val + 1) → v.read (Elt F) ((v.slice (rI k)).write (Elt F) f p Finset.univ) j = want j := by
  intro j hj
  by_cases h : (j 0).val < 16 * k.val
  · rw [View.read_slice_write_of_not_mem (rI k) _ _ _ (by
      rw [Rect.map_emb_univ]
      exact Rect.not_mem_set_of_axis (rI k) j 0 (16 * k.val) 16 (by show (k1_off2 k) 0 = _; rw [k1_off2_eq]; rfl) rfl rfl (.inl h))]
    exact hf j h
  · have hx : (j 0).val - 16 * k.val < S16.size 0 := by show _ < 16; omega
    let x : S16.Idx := fun a => ⟨(j 0).val - 16 * k.val, by obtain rfl : a = 0 := Subsingleton.elim _ _; exact hx⟩
    have e : (rI k).emb x = j := by
      funext a; obtain rfl : a = 0 := Subsingleton.elim _ _
      apply Fin.ext
      rw [rI_emb]
      show 16 * k.val + ((j 0).val - 16 * k.val) = _
      omega
    rw [← e, View.read_slice_write_emb (rI k) _ _ (Finset.mem_univ x)]
    exact hp x

/-! ## The body -/

variable [FloatOps F]

/-- Between trips: the index words and the table as copied in, the first `16 * k` places of each row made. -/
def inv (k : ℕ) (_ : Unit) : sProp 𝕄 :=
  iprop((sI.view.loc (V d (cV L) (jV L)) ↦{fullShare} idxRow iv d L)
    ∗ (sT.view.loc (V d (cV L) (jV L)) ↦{fullShare} tv d)
    ∗ (∃ f : S6144.Idx → F .f32, ⌜∀ j : S6144.Idx, (j 0).val < 16 * k → f j = wantLo iv tv d L j⌝ ∗ (sA.view.loc (V d (cV L) (jV L)) ↦{fullShare} f))
    ∗ (∃ f : S6144.Idx → F .f32, ⌜∀ j : S6144.Idx, (j 0).val < 16 * k → f j = wantHi iv tv d L j⌝ ∗ (sB.view.loc (V d (cV L) (jV L)) ↦{fullShare} f)))

theorem read_table (f : Buf (Elt F) (tLoc d)) : (sT.access (.whole S8192)).read (Elt F) f = f := Memref.read_access_whole _ _ _

/-- The row of results copied out over a range of the output leaves the gathered array on the range. -/
theorem landed_lo (w : S6144.Idx → F .f32) (hw : w = wantLo iv tv d L) :
    ∀ i ∈ (loK L).view.set, (loK L).view.writes (Elt F) (ov d) [⟨Rect.whole S6144, w⟩] i = gathered (iv d) (tv d) i := by
  subst hw
  intro i hi
  obtain ⟨j, -, rfl⟩ := Finset.mem_map.mp hi
  have h := View.read_writes_cons_emb (loK L).view (ov d) (Rect.whole S6144) (wantLo iv tv d L) [] j
  rw [Rect.emb_whole_apply, View.read_apply, cast_eq] at h
  have e : (loK L).view.emb j = (loRectK L).emb j := rfl
  refine h.trans ?_
  unfold wantLo
  rw [← e]
theorem landed_hi (w : S6144.Idx → F .f32) (hw : w = wantHi iv tv d L) :
    ∀ i ∈ (hiK L).view.set, (hiK L).view.writes (Elt F) (ov d) [⟨Rect.whole S6144, w⟩] i = gathered (iv d) (tv d) i := by
  subst hw
  intro i hi
  obtain ⟨j, -, rfl⟩ := Finset.mem_map.mp hi
  have h := View.read_writes_cons_emb (hiK L).view (ov d) (Rect.whole S6144) (wantHi iv tv d L) [] j
  rw [Rect.emb_whole_apply, View.read_apply, cast_eq] at h
  have e : (hiK L).view.emb j = (hiRectK L).emb j := rfl
  refine h.trans ?_
  unfold wantHi
  rw [← e]

/-- One trip: sixteen index words loaded and checked, the table read at them and stored, the table read 4096 further on
    and stored. -/
theorem trip_body (hpre : InRange iv) (k : Fin k1_t1_loop.trips) :
    inv iv tv d L k.val ()
      ⊢ wp frame (wpE (defs₀ (F := F)) 𝒱₀ (V d (cV L) (jV L)) none) Set.univ
          (k1_t1_body L iM (Memref.isWhole_whole _) tM (Memref.isWhole_whole _) oM (Memref.isWhole_whole _)
            sI (Memref.isWhole_whole _) sT (Memref.isWhole_whole _) sA (Memref.isWhole_whole _) sB (Memref.isWhole_whole _)
            cc1_scoped0 cc1_scoped1 cc1_scoped2 cc1_scoped3 k ())
          fun r => inv iv tv d L (k.val + 1) r := by
  unfold inv
  iintro ⟨HsI, HsT, ⟨%f, %hf, HsA⟩, ⟨%g, %hg, HsB⟩⟩
  unfold k1_t1_body
  simp only [Prog.lift, Prog.bind_op, Prog.bind_ret, Prog.pure_eq_ret]
  iapply (wp_load 𝒱₀ (V d (cV L) (jV L)) none Set.univ (m := sI) (S := Finset.univ) (Finset.subset_univ _)) $$ HsI; iintro HsI
  rw [show sI.view.readAt (Elt F) (rI k).toLoadRect (idxRow iv d L) = words iv d L k from rfl]
  rw [wp_assume_of _ _ _ _ (chk1 iv d L hpre k)]
  iapply (SparseCore.wp_vectorLoadIdx 𝒱₀ (V d (cV L) (jV L)) none Set.univ (base := sT) (S := Finset.univ) (q := fullShare) (Finset.subset_univ _)) $$ HsT; iintro HsT
  iapply (wp_load 𝒱₀ (V d (cV L) (jV L)) none Set.univ (m := sA) (S := Finset.univ) (Finset.subset_univ _)) $$ HsA; iintro HsA
  iapply (wp_store 𝒱₀ (V d (cV L) (jV L)) none Set.univ (m := sA) (r := rA k) (Mk := Finset.univ) (S := Finset.univ) (Finset.subset_univ _)) $$ HsA; iintro HsA
  rw [wp_assume_of _ _ _ _ (chk2 iv d L hpre k)]
  iapply (SparseCore.wp_vectorLoadIdx 𝒱₀ (V d (cV L) (jV L)) none Set.univ (base := sT) (S := Finset.univ) (q := fullShare) (Finset.subset_univ _)) $$ HsT; iintro HsT
  iapply (wp_load 𝒱₀ (V d (cV L) (jV L)) none Set.univ (m := sB) (S := Finset.univ) (Finset.subset_univ _)) $$ HsB; iintro HsB
  iapply (wp_store 𝒱₀ (V d (cV L) (jV L)) none Set.univ (m := sB) (r := rB k) (Mk := Finset.univ) (S := Finset.univ) (Finset.subset_univ _)) $$ HsB; iintro HsB
  rw [wp_ret]; imodintro
  isplitl [HsI]; · iexact HsI
  isplitl [HsT]; · iexact HsT
  isplitl [HsA]
  · iexists _; isplitr
    swap; · iexact HsA
    ipureintro
    refine row_step sA.view k f (wantLo iv tv d L) _ hf fun x => ?_
    rw [wantLo_eq]
    refine (loadIdx_eq _ _ _ x).trans ?_
    rw [read_table]
    rfl
  · iexists _; isplitr
    swap; · iexact HsB
    ipureintro
    refine row_step sB.view k g (wantHi iv tv d L) _ hg fun x => ?_
    rw [wantHi_eq]
    refine (loadIdx_eq _ _ _ x).trans ?_
    rw [pay1_toNat iv d L hpre, read_table]
    rfl

set_option maxHeartbeats 4000000 in
/-- The task of the tile at `L`: from its index range, its share of the table and its two output ranges, to the output
    ranges at the gathered array. -/
theorem tile_body (hF : (K (F := F)).Facts) (hpre : InRange iv) (O : CellTallies nD τ sig (HIx 1)) (W : Waits sig (HIx 1)) (hO : ∀ g, O g none = 0) :
    iprop(levAts (K (F := F)).L (K (F := F)).lev ∗ emp
        ∗ tilePts iv tv d (wL L) (ov d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__gather_body L iM (Memref.isWhole_whole _) tM (Memref.isWhole_whole _) oM (Memref.isWhole_whole _)
            sI (Memref.isWhole_whole _) sT (Memref.isWhole_whole _) sA (Memref.isWhole_whole _) sB (Memref.isWhole_whole _)
            cc1_scoped0 cc1_scoped1 cc1_scoped2 cc1_scoped3)
          fun _ => iprop(tilePts iv tv d (wL L) (gathered (iv d) (tv d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc1__gather_body_eq_skeleton]; unfold cc1__gather_body_skel
  rw [(K (F := F)).scopedBufs_V hF d (cV L) (jV L), SparseCore.Cfg.scopedSems0_V (Val := Elt F) d (cV L) (jV L), ownSems_tile, ownBufs_tile]
  iintro ⟨#Hlv, -, ⟨Hi, Ht, Hlo, Hhi⟩, ⟨⟨%fi, HsI⟩, ⟨%ft, HsT⟩, ⟨%fa, HsA⟩, ⟨%fb, HsB⟩, Hbufs⟩, ⟨Hc0, Hc1, Hc2, Hc3, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Hlo' := (Entails.of_eq (pts_loK (F := F) d L _).symm) $$ Hlo
  ihave Hhi' := (Entails.of_eq (pts_hiK (F := F) d L _).symm) $$ Hhi
  ihave Ht' := (Entails.of_eq (pts_tM (F := F) d L _ _).symm) $$ Ht
  ihave HsI' := (show ((V d (cV L) (jV L)).loc cc1_scratch0 ↦{fullShare} fi : sProp 𝕄) ⊢ sI.view.loc (V d (cV L) (jV L)) ↦{fullShare} fi from .rfl) $$ HsI
  ihave HsT' := (show ((V d (cV L) (jV L)).loc cc1_scratch1 ↦{fullShare} ft : sProp 𝕄) ⊢ sT.view.loc (V d (cV L) (jV L)) ↦{fullShare} ft from .rfl) $$ HsT
  ihave HsA' := (show ((V d (cV L) (jV L)).loc cc1_scratch2 ↦{fullShare} fa : sProp 𝕄) ⊢ sA.view.loc (V d (cV L) (jV L)) ↦{fullShare} fa from .rfl) $$ HsA
  ihave HsB' := (show ((V d (cV L) (jV L)).loc cc1_scratch3 ↦{fullShare} fb : sProp 𝕄) ⊢ sB.view.loc (V d (cV L) (jV L)) ↦{fullShare} fb from .rfl) $$ HsB
  sl_exec
  -- the copies landed the index range and the table
  ihave HsT := (Entails.of_eq (show (sT.view.loc (V d (cV L) (jV L)) ↦{fullShare} View.write (Elt F) sT.view ft (tile_body.sl.dma0 tv d) Finset.univ : sProp 𝕄)
      = sT.view.loc (V d (cV L) (jV L)) ↦{fullShare} tv d by rw [show View.write (Elt F) sT.view ft (tile_body.sl.dma0 tv d) Finset.univ = tv d from
        (View.write_whole_univ cc1_scratch1 ft _).trans rfl])) $$ HsT'
  ihave HsI := (Entails.of_eq (show (sI.view.loc (V d (cV L) (jV L)) ↦{fullShare} View.write (Elt F) sI.view fi (tile_body.sl.dma0_1 iv d L) Finset.univ : sProp 𝕄)
      = sI.view.loc (V d (cV L) (jV L)) ↦{fullShare} idxRow iv d L by rw [show View.write (Elt F) sI.view fi (tile_body.sl.dma0_1 iv d L) Finset.univ = idxRow iv d L from
        (View.write_whole_univ cc1_scratch0 fi _).trans (funext fun j => (View.read_apply _ _).trans (cast_eq _ _))])) $$ HsI'
  sl_for (inv iv tv d L) $$ [HsI HsT HsA' HsB']
  case region => exact fun k _ => trip_body iv tv d L hpre k
  · unfold inv
    isplitl [HsI]; · iexact HsI
    isplitl [HsT]; · iexact HsT
    isplitl [HsA']
    · iexists fa; isplitr; · ipureintro; exact fun j hj => absurd hj (by omega)
      iexact HsA'
    · iexists fb; isplitr; · ipureintro; exact fun j hj => absurd hj (by omega)
      iexact HsB'
  iintro %_ HI
  unfold inv
  icases HI with ⟨HsI, HsT, ⟨%f, %hf, HsA'⟩, ⟨%g, %hg, HsB'⟩⟩
  sl_exec
  sl_step
  have trips_eq : Scf.trips k1_t1_loop.lb k1_t1_loop.ub k1_t1_loop.st = 384 := by decide
  have hf' : f = wantLo iv tv d L := funext fun j => hf j (by have hj : (j 0).val < 6144 := (j 0).isLt; rw [trips_eq]; omega)
  have hg' : g = wantHi iv tv d L := funext fun j => hg j (by have hj : (j 0).val < 6144 := (j 0).isLt; rw [trips_eq]; omega)
  subst hf' hg'
  isplitl [Ht' Hi' Hlo' Hhi']
  · isplitl [Hi']; · iapply (Entails.of_eq (pts_iK (F := F) d L _)) $$ Hi'
    isplitl [Ht']; · iapply (Entails.of_eq (pts_tM (F := F) d L _ _)) $$ Ht'
    isplitl [Hlo']
    · iapply (Entails.of_eq ((pointsTo_congr (landed_lo iv tv ov d L (tile_body.sl.dma0_2 (wantLo iv tv d L)) rfl)).trans (pts_loK (F := F) d L _))) $$ Hlo'
    · iapply (Entails.of_eq ((pointsTo_congr (landed_hi iv tv ov d L (tile_body.sl.dma0_3 (wantHi iv tv d L)) rfl)).trans (pts_hiK (F := F) d L _))) $$ Hhi'
  isplitl [HsI HsT HsA' HsB' Hbufs]
  · isplitl [HsI]; · iexists _; iexact HsI
    isplitl [HsT]; · iexists _; iexact HsT
    isplitl [HsA']; · iexists _; iexact HsA'
    isplitl [HsB']; · iexists _; iexact HsB'
    iexact Hbufs
  isplitl [Hc0 Hc1 Hc2 Hc3 Hsems]
  · isplitl [Hc0]; · iexact Hc0
    isplitl [Hc1]; · iexact Hc1
    isplitl [Hc2]; · iexact Hc2
    isplitl [Hc3]; · iexact Hc3
    iexact Hsems
  iexists _
  isplitr
  swap; · iexact HO
  ipureintro
  intro p hp
  rcases Finset.mem_insert.mp hp with h | hp; · exact Or.inr (h ▸ rfl)
  rcases Finset.mem_insert.mp hp with h | hp; · exact Or.inr (h ▸ rfl)
  rcases Finset.mem_insert.mp hp with h | hp; · exact Or.inr (h ▸ rfl)
  rcases Finset.mem_insert.mp hp with h | hp; · exact Or.inr (h ▸ rfl)
  exact Or.inl hp

end Tile

end Cert.Proof.Run

end
-- ==== Proof.Region.lean ====
/-
  The TensorCore kernel that writes the table: one grid point, the five inputs staged whole, two blocks of the table
  stored one after the other. Here its body is run over the staging buffers, the array it leaves is named, and the
  call is stated as one step of the host program's thread, which meanwhile owes the SparseCores their start.
-/
module

public import proofs.«01_k».proof.Proof.Setup
public import proofs.«01_k».proof.Proof.Gen.KernelIdeal.Launch
public import proofs.«01_k».proof.Proof.Gen.KernelIdeal.Points
public import Idealize.ShloMosaic.Lib.Writes
public import Idealize.ShloMosaic.Lib.Pipeline.RegionsLoop

@[expose] public section

noncomputable section

namespace Cert.Proof.Run

open Cert.KernelIdeal Cert.KernelIdeal.Gen

open Idealize.ShloMosaic
open Idealize.ShloMosaic.TcCoe
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type}

local notation "𝕄" => MT nD τ sig (HIx 1) (Elt F) ℕ UU ℕ

section Region

variable [FloatOps F]

/-! ## The table -/

/-- A row of one batch of the table, as an index of the block stored for that batch. -/
def rowIx (j : S2x256x16.Idx) : S1x256x16.Idx := fun | 0 => ⟨0, by decide⟩ | 1 => j 1 | 2 => j 2

/-- The table the kernel stores, from its five inputs: one block per batch. -/
def tblv (x0 : S2x16x768.Idx → F .f32) (x1 x2 : S64x768.Idx → F .f32) (x3 : S12x64.Idx → F .f32) (x4 : S1x64.Idx → F .f32) : S2x256x16.Idx → F .f32 :=
  fun j => if (j 0).val = 0 then k0_pay5 x0 x1 x2 x3 x4 (rowIx j) else k0_pay6 x0 x1 x2 x3 x4 (rowIx j)

/-- The two blocks of the table. -/
abbrev blk0 : Rect S2x256x16 := Rect.unit (s := S2x256x16) ![0, 0, 0] S1x256x16.size inb_S2x256x16_S1x256x16_0_0_0
abbrev blk1 : Rect S2x256x16 := Rect.unit (s := S2x256x16) ![1, 0, 0] S1x256x16.size inb_S2x256x16_S1x256x16_1_0_0

/-- Memref `M`'s buffer on core `c` held whole at `f`. -/
abbrev pt (c : Dev nD) {sp : Space} {S : Shape} {e : EltTy} (M : Memref sig .tc sp S e) (f : Buf (Elt F) (M.view.loc (c : Thread nD τ))) : sProp 𝕄 :=
  M.view.loc (c : Thread nD τ) ↦{fullShare} f

set_option maxRecDepth 65536 in
/-- The body from the six staging buffers: the inputs come back as they were, the table's buffer holds what the two
    stores left. -/
def tableRun (c : Dev nD) (M0 : Memref sig .tc .vmem S2x16x768 .f32) (h0 : M0.IsWhole) (M1 : Memref sig .tc .vmem S64x768 .f32) (h1 : M1.IsWhole)
    (M2 : Memref sig .tc .vmem S64x768 .f32) (h2 : M2.IsWhole) (M3 : Memref sig .tc .vmem S12x64 .f32) (h3 : M3.IsWhole)
    (M4 : Memref sig .tc .vmem S1x64 .f32) (h4 : M4.IsWhole) (M5 : Memref sig .tc .vmem S2x256x16 .f32) (h5 : M5.IsWhole) (i : grid0.Coords)
    (f0 : Buf (Elt F) (M0.view.loc (c : Thread nD τ))) (f1 : Buf (Elt F) (M1.view.loc (c : Thread nD τ))) (f2 : Buf (Elt F) (M2.view.loc (c : Thread nD τ)))
    (f3 : Buf (Elt F) (M3.view.loc (c : Thread nD τ))) (f4 : Buf (Elt F) (M4.view.loc (c : Thread nD τ))) (f5 : Buf (Elt F) (M5.view.loc (c : Thread nD τ))) :
    { W : Buf (Elt F) (M5.view.loc (c : Thread nD τ)) // ∀ (E : Set ℕ) (Q : PUnit → sProp 𝕄),
        iprop(pt c M0 f0 ∗ pt c M1 f1 ∗ pt c M2 f2 ∗ pt c M3 f3 ∗ pt c M4 f4 ∗ pt c M5 f5
            ∗ (iprop(pt c M0 f0 ∗ pt c M1 f1 ∗ pt c M2 f2 ∗ pt c M3 f3 ∗ pt c M4 f4 ∗ pt c M5 W) -∗ Q ⟨⟩))
          ⊢ wp frame (wpE (defs₀ (F := F)) Variants.none c none) E (cc0__table_body i M0 h0 M1 h1 M2 h2 M3 h3 M4 h4 M5 h5) Q } := by
  refine ⟨?_, fun E Q => ?run⟩
  case run =>
    rw [cc0__table_body_eq_skeleton]
    unfold cc0__table_body_skel
    rw [k0_part1_eq_skeleton]
    unfold k0_part1_skel
    iintro ⟨H0, H1, H2, H3, H4, H5, Hk⟩
    sl_exec!
    sl_step
    iapply Hk
    isplitl [H0]; · iexact H0
    isplitl [H1]; · iexact H1
    isplitl [H2]; · iexact H2
    isplitl [H3]; · iexact H3
    isplitl [H4]; · iexact H4
    iexact H5

theorem off2 : (![0, 0] : Fin 2 → ℕ) = fun _ => 0 := by decide
theorem off3 : (![0, 0, 0] : Fin 3 → ℕ) = fun _ => 0 := by decide

/-- A row of the first batch sits in the first block at its own coordinates, a row of the second in the second. -/
theorem rowIx_blk0 (j : S2x256x16.Idx) (hj : (j 0).val = 0) : ∀ a, (j a).val = blk0.off a + blk0.stride a * (rowIx j a).val
  | 0 => by show (j 0).val = 0 + 1 * 0; omega
  | 1 => by show (j 1).val = 0 + 1 * (j 1).val; omega
  | 2 => by show (j 2).val = 0 + 1 * (j 2).val; omega
theorem rowIx_blk1 (j : S2x256x16.Idx) (hj : (j 0).val = 1) : ∀ a, (j a).val = blk1.off a + blk1.stride a * (rowIx j a).val
  | 0 => by show (j 0).val = 1 + 1 * 0; omega
  | 1 => by show (j 1).val = 0 + 1 * (j 1).val; omega
  | 2 => by show (j 2).val = 0 + 1 * (j 2).val; omega

/-- What the body's two stores leave is the table of its inputs. -/
theorem tableRun_val (c : Dev nD) (i : grid0.Coords) (f0 : S2x16x768.Idx → F .f32) (f1 f2 : S64x768.Idx → F .f32) (f3 : S12x64.Idx → F .f32)
    (f4 : S1x64.Idx → F .f32) (f5 : S2x256x16.Idx → F .f32) :
    (tableRun (F := F) c (stage0_0 0) (hstage0_0 0) (stage0_1 0) (hstage0_1 0) (stage0_2 0) (hstage0_2 0) (stage0_3 0) (hstage0_3 0) (stage0_4 0) (hstage0_4 0)
      (stage0_5 0) (hstage0_5 0) i f0 f1 f2 f3 f4 f5).1 = tblv f0 f1 f2 f3 f4 := by
  unfold tableRun
  dsimp only
  have e : (tableRun.sl.H5_2 c (stage0_0 0) (stage0_1 0) (stage0_2 0) (stage0_3 0) (stage0_4 0) f0 f1 f2 f3 f4)
      = [(⟨blk1, k0_pay6 f0 f1 f2 f3 f4⟩ : View.Piece (Elt F) S2x256x16 .f32), ⟨blk0, k0_pay5 f0 f1 f2 f3 f4⟩] := by
    unfold tableRun.sl.H5_2
    have r0 := Memref.readAt_unit_zero (Elt F) cc0_stg0_0 off3 inb_S2x16x768_S2x16x768_0_0_0 f0
    have r1 := Memref.readAt_unit_zero (Elt F) cc0_stg1_0 off2 inb_S64x768_S64x768_0_0 f1
    have r2 := Memref.readAt_unit_zero (Elt F) cc0_stg2_0 off2 inb_S64x768_S64x768_0_0 f2
    have r3 := Memref.readAt_unit_zero (Elt F) cc0_stg3_0 off2 inb_S12x64_S12x64_0_0 f3
    have r4 := Memref.readAt_unit_zero (Elt F) cc0_stg4_0 off2 inb_S1x64_S1x64_0_0 f4
    simp only [stage0_0, stage0_1, stage0_2, stage0_3, stage0_4] at *
    erw [r0, r1, r2, r3, r4]
  rw [e]
  funext j
  have h0 : (j 0).val < 2 := (j 0).isLt
  refine (congrFun (View.read_whole (Val := Elt F) cc0_stg5_0 _).symm j).trans ?_
  unfold tblv
  by_cases hj : (j 0).val = 0
  · rw [if_pos hj, View.read_writes_cons_miss_of_axis _ _ _ _ j 0 1 1 rfl rfl rfl (Or.inl (by omega))]
    exact View.read_writes_cons_hit_of_coords (Val := Elt F) (View.whole cc0_stg5_0) _ blk0 (k0_pay5 f0 f1 f2 f3 f4) [] (rowIx j) j (rowIx_blk0 j hj)
  · rw [if_neg hj]
    exact View.read_writes_cons_hit_of_coords (Val := Elt F) (View.whole cc0_stg5_0) _ blk1 (k0_pay6 f0 f1 f2 f3 f4) _ (rowIx j) j (rowIx_blk1 j (by omega))

/-! ## The proof data, from the arrays as the call finds them -/

variable (V : (c : Dev nD) → (b : Ref sig .tc) → Buf (Elt F) ((c : Thread nD τ).loc b))

/-- The blocks the five fetches stage. -/
abbrev stg0 (c : Dev nD) : S2x16x768.Idx → F .f32 := ((cfg0.win 0).blk t0_0).view.read (Elt F) (V c main_arg0)
abbrev stg1 (c : Dev nD) : S64x768.Idx → F .f32 := ((cfg0.win 1).blk t0_0).view.read (Elt F) (V c main_arg2)
abbrev stg2 (c : Dev nD) : S64x768.Idx → F .f32 := ((cfg0.win 2).blk t0_0).view.read (Elt F) (V c main_arg3)
abbrev stg3 (c : Dev nD) : S12x64.Idx → F .f32 := ((cfg0.win 3).blk t0_0).view.read (Elt F) (V c main_arg4)
abbrev stg4 (c : Dev nD) : S1x64.Idx → F .f32 := ((cfg0.win 4).blk t0_0).view.read (Elt F) (V c main_arg5)

/-- The table of the arrays `V`. -/
abbrev tableOf (c : Dev nD) : S2x256x16.Idx → F .f32 := tblv (stg0 V c) (stg1 V c) (stg2 V c) (stg3 V c) (stg4 V c)

/-- What the thread may have waited on so far: pairs at level zero. -/
abbrev lowPairs (c : Dev nD) : Set (SemLoc sig × HIx 1) := {p | (K (F := F)).lev ((c : Thread nD τ), p.1) p.2 ≤ 0}

/-- The proof data of the call: the arrays as found; after the body the staged inputs as fetched and the table; the
    start signals of the SparseCores owed throughout. -/
def dat (c : Dev nD) : Dat τ (Elt F) (HIx 1) ℕ UU ℕ cfg0 c where
  A w := V c (Pipeline.arrRef spec0 w)
  after w _ := match w with
    | ⟨0, _⟩ => stg0 V c
    | ⟨1, _⟩ => stg1 V c
    | ⟨2, _⟩ => stg2 V c
    | ⟨3, _⟩ => stg3 V c
    | ⟨4, _⟩ => stg4 V c
    | ⟨5, _⟩ => tableOf V c
  Φ _ := Pipeline.scopedRest (Ix := HIx 1) (Name := ℕ) (U := UU) (Lvl := ℕ) (Val := Elt F) spec0 c
  q _ := fullShare
  owed _ := (K (F := F)).Otc c 0
  recorded _ := lowPairs (F := F) c

abbrev adm : (p : Fin 1) → (pcfgs (F := F) p).Adm := fun p => (cfgs p).toPCfg_adm

def pdats : (p : Fin 1) → (c : Dev nD) → Dat τ (Elt F) (HIx 1) ℕ UU ℕ (Pipeline.pin (pcfgs (F := F)) adm p) c
  | ⟨0, _⟩ => fun c => dat V c

theorem before0 (c : Dev nD) (d : (cfg0.win 0).block.Idx → Elt F (cfg0.win 0).elt) : (dat V c).before 0 t0_0 d = stg0 V c := by
  unfold Dat.before; rw [if_pos (by decide)]; rfl
theorem before1 (c : Dev nD) (d : (cfg0.win 1).block.Idx → Elt F (cfg0.win 1).elt) : (dat V c).before 1 t0_0 d = stg1 V c := by
  unfold Dat.before; rw [if_pos (by decide)]; rfl
theorem before2 (c : Dev nD) (d : (cfg0.win 2).block.Idx → Elt F (cfg0.win 2).elt) : (dat V c).before 2 t0_0 d = stg2 V c := by
  unfold Dat.before; rw [if_pos (by decide)]; rfl
theorem before3 (c : Dev nD) (d : (cfg0.win 3).block.Idx → Elt F (cfg0.win 3).elt) : (dat V c).before 3 t0_0 d = stg3 V c := by
  unfold Dat.before; rw [if_pos (by decide)]; rfl
theorem before4 (c : Dev nD) (d : (cfg0.win 4).block.Idx → Elt F (cfg0.win 4).elt) : (dat V c).before 4 t0_0 d = stg4 V c := by
  unfold Dat.before; rw [if_pos (by decide)]; rfl

/-- The body at the grid's one point keeps the proof data. -/
theorem body_obligation (c : Dev nD) : BodyObligation (dat V c) (defs₀ (F := F)) 𝒱₀ none Set.univ := fun t => by
  obtain rfl := fin_N0 t
  rw [bigSep_W0, bigSep_W0]
  have o0 : ∀ X, (owns c.tc (stage0_0 (cfg0.slots t0_0 0)) fullShare X : sProp 𝕄) = _ := owns_whole_eq c.tc cc0_stg0_0 fullShare
  have o1 : ∀ X, (owns c.tc (stage0_1 (cfg0.slots t0_0 1)) fullShare X : sProp 𝕄) = _ := owns_whole_eq c.tc cc0_stg1_0 fullShare
  have o2 : ∀ X, (owns c.tc (stage0_2 (cfg0.slots t0_0 2)) fullShare X : sProp 𝕄) = _ := owns_whole_eq c.tc cc0_stg2_0 fullShare
  have o3 : ∀ X, (owns c.tc (stage0_3 (cfg0.slots t0_0 3)) fullShare X : sProp 𝕄) = _ := owns_whole_eq c.tc cc0_stg3_0 fullShare
  have o4 : ∀ X, (owns c.tc (stage0_4 (cfg0.slots t0_0 4)) fullShare X : sProp 𝕄) = _ := owns_whole_eq c.tc cc0_stg4_0 fullShare
  have o5 : ∀ X, (owns c.tc (stage0_5 (cfg0.slots t0_0 5)) fullShare X : sProp 𝕄) = _ := owns_whole_eq c.tc cc0_stg5_0 fullShare
  simp only [o0, o1, o2, o3, o4, o5]
  rw [show (dat V c).Φ t0_0.succ = (dat V c).Φ t0_0.castSucc from rfl, show (dat V c).owesAt none t0_0.succ = (dat V c).owesAt none t0_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, -, H5⟩⟩
  rw [before0] at hf0; subst hf0
  rw [before1] at hf1; subst hf1
  rw [before2] at hf2; subst hf2
  rw [before3] at hf3; subst hf3
  rw [before4] at hf4; subst hf4
  iapply ((tableRun (F := F) c (stage0_0 0) (hstage0_0 0) (stage0_1 0) (hstage0_1 0) (stage0_2 0) (hstage0_2 0) (stage0_3 0) (hstage0_3 0) (stage0_4 0) (hstage0_4 0)
      (stage0_5 0) (hstage0_5 0) (grid0.coords t0_0) (stg0 V c) (stg1 V c) (stg2 V c) (stg3 V c) (stg4 V c) f5).2 Set.univ _)
  rw [tableRun_val]
  isplitl [H0]; · iexact H0
  isplitl [H1]; · iexact H1
  isplitl [H2]; · iexact H2
  isplitl [H3]; · iexact H3
  isplitl [H4]; · iexact H4
  isplitl [H5]; · iexact H5
  iintro ⟨H0, H1, H2, H3, H4, H5⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  iexists _; isplitr; swap; (· iexact H5); ipureintro; dsimp only [dat]

/-- The call leaves the table in its result array. -/
theorem arr_table (c : Dev nD) : (dat V c).arrAt 5 cfg0.N = tableOf V c := by
  rw [show cfg0.N = t0_0.val + 1 from rfl, Dat.arrAt_succ, if_pos (flush0_5 t0_0)]
  funext j
  have hj : ((cfg0.win 5).blk t0_0).view.emb j = j := funext fun a => Fin.ext (by
    fin_cases a
    · show 0 * 2 + 1 * (j 0).val = (j 0).val; omega
    · show 0 * 256 + 1 * (j 1).val = (j 1).val; omega
    · show 0 * 16 + 1 * (j 2).val = (j 2).val; omega)
  conv_lhs => rw [← hj]
  exact View.write_emb_of_mem _ _ (Finset.mem_univ j)

/-! ## The call as one step of the host program -/

variable (Vp : (c : Dev nD) → (b : Ref sig .tc) → Buf (Elt F) ((c : Thread nD τ).loc b))

theorem Otc_none (c : Dev nD) (n : ℕ) (g : GSem nD τ sig) : (K (F := F)).Otc c n g none = 0 := by
  by_contra h
  have := SparseCore.Cfg.lev_of_Otc_pos (K := K (F := F)) (Nat.pos_of_ne_zero h)
  simp at this

set_option backward.isDefEq.respectTransparency.types false in
/-- The call from the host thread's unscoped buffers at `V` to the same buffers at `Vp`, which has the table in the
    call's result and is `V` elsewhere. -/
def reg (hVp_out : ∀ c, Vp c main_v0 = tableOf V c) (hVp_ne : ∀ c (b : Ref sig .tc), b ≠ main_v0 → Vp c b = V c b) :
    Pipeline.RegionSeg (pcfgs (F := F)) adm (pdats V) none defs₀ 𝒱₀ (K (F := F)).L (K (F := F)).lev 0 where
  win := (launch0).win.to₀
  block_pos := (launch0).block_pos
  stage_whole := (launch0).stage_whole
  K := PEmpty
  osem k := k.elim
  ho := Pipeline.OwnSemFacts.none _
  hbody c := (body_obligation V c).loose
  hwaits c := Pipeline.cellsWaits_intro (Pipeline.pin (pcfgs (F := F)) adm) (pdats V) none 0 c fun w s t =>
    (K (F := F)).mayWait_none _ (Otc_none c 0)
  pre c := iprop(unscopedBufs c (V c) ∗ ∃ W, ⌜∀ p ∈ W, p ∈ lowPairs (F := F) c⌝ ∗ owes (c : Thread nD τ) ((K (F := F)).Otc c 0) W)
  post c := iprop(unscopedBufs c (Vp c) ∗ ∃ W, ⌜∀ p ∈ W, p ∈ lowPairs (F := F) c⌝ ∗ owes (c : Thread nD τ) ((K (F := F)).Otc c 0) W)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs (p := 0) (pcfgs (F := F)) adm (pdats V) (launch0).win (launch0).arr_whole c
      ((pdats V 0 c).share_full fun _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec0 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec0 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch0).win (launch0).arr_whole c
      (pdats V) ((pdats V 0 c).share_full fun _ => rfl) (V c) (Vp c) ((pdats V 0 c).arrAt · cfg0.N)
      (fun w => by
        fin_cases w
        · exact ((pdats V 0 c).arrAt_in 0 rfl _).trans (hVp_ne c main_arg0 (by decide)).symm
        · exact ((pdats V 0 c).arrAt_in 1 rfl _).trans (hVp_ne c main_arg2 (by decide)).symm
        · exact ((pdats V 0 c).arrAt_in 2 rfl _).trans (hVp_ne c main_arg3 (by decide)).symm
        · exact ((pdats V 0 c).arrAt_in 3 rfl _).trans (hVp_ne c main_arg4 (by decide)).symm
        · exact ((pdats V 0 c).arrAt_in 4 rfl _).trans (hVp_ne c main_arg5 (by decide)).symm
        · exact (arr_table V c).trans (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro; intro p hp
      rcases hW hp with h | ⟨w, s, rfl⟩
      · exact h
      · show (0 : ℕ) ≤ 0; exact Nat.le_refl 0
    iexact HO

end Region

end Cert.Proof.Run

end
-- ==== Proof.Launch.lean ====
/-
  The launch of the gather: what each signal between the host thread and the tiles carries, the task's obligation, the
  arrays divided among the thirty-two tiles and put together again, and the ghost state the launch starts from.
-/
module

public import proofs.«01_k».proof.Proof.Tile
public import proofs.«01_k».proof.Proof.Region

@[expose] public section

noncomputable section

namespace Cert.Proof.Run

open Cert.KernelIdeal Cert.KernelIdeal.Gen

open Idealize.ShloMosaic
open Idealize.ShloMosaic.SparseCore (S V)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section Launch

variable [FloatOps F]
variable (iv : (d : Dev nD) → Buf (Elt F) (iLoc d)) (tv : (d : Dev nD) → Buf (Elt F) (tLoc d)) (ov : (d : Dev nD) → Buf (Elt F) (oLoc d))

/-! ## What the signals carry -/

/-- What one SparseCore's tiles hold, with the output's ranges at `f`. -/
abbrev corePts (d : Dev nD) (c : Fin 2) (f : Buf (Elt F) (oLoc d)) : sProp 𝕄 :=
  bigSep Finset.univ fun s : Fin 16 => tilePts iv tv d (tileNo c s) f

/-- A SparseCore's start brings its tiles' pieces with the output as it was, a tile's start that tile's; the two ends
    bring them back with the output gathered. -/
def P : (K (F := F)).Pay (nD := nD) (Val := Elt F) (Name := ℕ) (U := UU) where
  st := fun q d c => match q with | 0 => corePts iv tv d (Fin.cast nCore_zero c) (ov d)
  dn := fun q d c => match q with | 0 => corePts iv tv d (Fin.cast nCore_zero c) (gathered (iv d) (tv d))
  go := fun q d c i => match q with | 0 => tilePts iv tv d (tileNo (Fin.cast nCore_zero c) (Fin.cast nSub_zero i)) (ov d)
  td := fun q d c i => match q with | 0 => tilePts iv tv d (tileNo (Fin.cast nCore_zero c) (Fin.cast nSub_zero i)) (gathered (iv d) (tv d))
  x := fun _ _ => iprop(emp)

instance P_storable : (P iv tv ov).IsStorable where
  st q d c := match q with
    | 0 => (inferInstance : BI.Storable (upEmb : UEmb _ 𝕄) (corePts iv tv d (Fin.cast nCore_zero c) (ov d)))
  dn q d c := match q with
    | 0 => (inferInstance : BI.Storable (upEmb : UEmb _ 𝕄) (corePts iv tv d (Fin.cast nCore_zero c) (gathered (iv d) (tv d))))
  go q d c i := match q with
    | 0 => (inferInstance : BI.Storable (upEmb : UEmb _ 𝕄) (tilePts iv tv d (tileNo (Fin.cast nCore_zero c) (Fin.cast nSub_zero i)) (ov d)))
  td q d c i := match q with
    | 0 => (inferInstance : BI.Storable (upEmb : UEmb _ 𝕄) (tilePts iv tv d (tileNo (Fin.cast nCore_zero c) (Fin.cast nSub_zero i)) (gathered (iv d) (tv d))))

/-! ## The task's obligation -/

/-- The grid point of a SparseCore and a subcore. -/
def coordsV (c : Fin (grid1.bound 0)) (s : Fin (grid1.bound 1)) : grid1.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 1 ()
      = SparseCore.onTile hcore1 hsub1 (fun c s => cc1__gather_body (coordsV c s)
          iM (Memref.isWhole_whole _) tM (Memref.isWhole_whole _) oM (Memref.isWhole_whole _)
          sI (Memref.isWhole_whole _) sT (Memref.isWhole_whole _) sA (Memref.isWhole_whole _) sB (Memref.isWhole_whole _)
          cc1_scoped0 cc1_scoped1 cc1_scoped2 cc1_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hpre : InRange iv) : (K (F := F)).TileObl (D (F := F)) 𝒱 (P iv tv ov) v₀ 0 := by
  intro d c i O W hO _ _
  simp only [show (P iv tv ov).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body iv tv ov d (coordsV ⟨_, hci.1⟩ ⟨_, hci.2⟩) hF hpre O W hO).trans (wp_mono frame _ _ fun _ => obl_post)

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

/-- A SparseCore's pieces are its tiles' pieces, both ways. -/
theorem vecSplit : (K (F := F)).VecSplit' (P iv tv ov) 0 := by
  intro d c
  show (corePts iv tv d (Fin.cast nCore_zero c) (ov d) : sProp 𝕄) ⊢ |={Set.univ}=> iprop(
      (bigSep Finset.univ fun i : Fin ((K (F := F)).nSub 0) => tilePts iv tv d (tileNo (Fin.cast nCore_zero c) (Fin.cast nSub_zero i)) (ov d))
      ∗ ((bigSep Finset.univ fun i : Fin ((K (F := F)).nSub 0) => tilePts iv tv d (tileNo (Fin.cast nCore_zero c) (Fin.cast nSub_zero i)) (gathered (iv d) (tv d)))
          -∗ corePts iv tv d (Fin.cast nCore_zero c) (gathered (iv d) (tv d))))
  rw [bigSep_tasks (F := F) (fun i => tilePts iv tv d (tileNo (Fin.cast nCore_zero c) i) (ov d)),
    bigSep_tasks (F := F) (fun i => tilePts iv tv d (tileNo (Fin.cast nCore_zero c) i) (gathered (iv d) (tv d)))]
  iintro H; imodintro
  isplitl [H]; · iexact H
  iintro H; iexact H

/-! ## The arrays divided among the tiles -/

omit [FloatOps F] in
theorem iSet_eq (w : Fin 32) : iSet w = (ipart w).set := by
  show ((View.whole (main_v12_scv : Ref sig .scVector)).slice (ipart w)).set = _
  rw [View.set_slice]; exact Finset.map_refl
omit [FloatOps F] in
theorem oSet_eq (w : Fin 64) : oSet w = (opart w).set := by
  show ((View.whole (main_v14_scv : Ref sig .scVector)).slice (opart w)).set = _
  rw [View.set_slice]; exact Finset.map_refl

omit [FloatOps F] in
theorem iArr_parts (d : Dev nD) (f : Buf (Elt F) (iLoc d)) :
    (iLoc d ↦{fullShare} f : sProp 𝕄) = bigSep Finset.univ fun w : Fin 32 => iLoc d ↦[iSet w]{fullShare} f := by
  rw [← pointsTo_biUnion Finset.univ (ℓ := iLoc d) iSet (fun i _ j _ h => by rw [iSet_eq, iSet_eq]; exact Rect.part_disjoint idiv h),
    (Finset.biUnion_congr rfl fun i _ => iSet_eq i).trans (Rect.biUnion_part idiv)]; try rfl
omit [FloatOps F] in
theorem oArr_parts (d : Dev nD) (f : Buf (Elt F) (oLoc d)) :
    (oLoc d ↦{fullShare} f : sProp 𝕄) = bigSep Finset.univ fun w : Fin 64 => oLoc d ↦[oSet w]{fullShare} f := by
  rw [← pointsTo_biUnion Finset.univ (ℓ := oLoc d) oSet (fun i _ j _ h => by rw [oSet_eq, oSet_eq]; exact Rect.part_disjoint odiv h),
    (Finset.biUnion_congr rfl fun i _ => oSet_eq i).trans (Rect.biUnion_part odiv)]; try rfl
omit [FloatOps F] in
theorem tArr_shares (d : Dev nD) (f : Buf (Elt F) (tLoc d)) :
    (tLoc d ↦{fullShare} f : sProp 𝕄) = bigSep Finset.univ fun w : Fin 32 => tLoc d ↦{tq w} f :=
  Transfers.pointsTo_deal Finset.univ ⟨0, Finset.mem_univ 0⟩ fullShare

/-- The tiles in order, from their SparseCore and subcore. -/
def tileEmb : Fin 2 × Fin 16 ↪ Fin 32 := ⟨fun p => tileNo p.1 p.2, fun p q h => by
  have h := congrArg Fin.val h
  have h : 2 * p.2.val + p.1.val = 2 * q.2.val + q.1.val := h
  exact Prod.ext (Fin.ext (by omega)) (Fin.ext (by omega))⟩

omit [FloatOps F] in
theorem bigSep_tiles (Φ : Fin 32 → sProp 𝕄) :
    bigSep Finset.univ Φ = bigSep Finset.univ fun c : Fin 2 => bigSep Finset.univ fun s : Fin 16 => Φ (tileNo c s) := by
  rw [show (Finset.univ : Finset (Fin 32)) = (Finset.univ ×ˢ Finset.univ).map tileEmb by decide, BI.bigSep_map, SparseCore.bigSep_product]
  rfl

def loEmb : Fin 32 ↪ Fin 64 := ⟨loPart, fun p q h => Fin.ext (by have h := congrArg (fun x : Fin 64 => x.val) h; exact h)⟩
def hiEmb : Fin 32 ↪ Fin 64 := ⟨hiPart, fun p q h => Fin.ext (by have h : 32 + p.val = 32 + q.val := congrArg Fin.val h; omega)⟩

omit [FloatOps F] in
theorem bigSep_halves (Φ : Fin 64 → sProp 𝕄) :
    bigSep Finset.univ Φ = iprop((bigSep Finset.univ fun w : Fin 32 => Φ (loPart w)) ∗ bigSep Finset.univ fun w : Fin 32 => Φ (hiPart w)) := by
  rw [show (Finset.univ : Finset (Fin 64)) = (Finset.univ : Finset (Fin 32)).map loEmb ∪ (Finset.univ : Finset (Fin 32)).map hiEmb by decide,
    SparseCore.bigSep_union' (by decide), BI.bigSep_map, BI.bigSep_map]
  rfl

omit [FloatOps F] in
/-- The three arrays whole are the tiles' pieces of them. -/
theorem arrays_tiles (d : Dev nD) (f : Buf (Elt F) (oLoc d)) :
    (iprop((iLoc d ↦{fullShare} iv d) ∗ (tLoc d ↦{fullShare} tv d) ∗ oLoc d ↦{fullShare} f) : sProp 𝕄)
      = bigSep Finset.univ fun c : Fin 2 => corePts iv tv d c f := by
  rw [← bigSep_tiles (F := F) fun w => tilePts iv tv d w f, bigSep_sep', bigSep_sep', bigSep_sep', iArr_parts, tArr_shares, oArr_parts, bigSep_halves]

theorem st0_eq (d : Dev nD) : (bigSep Finset.univ fun c : Fin ((K (F := F)).nCore 0) => (P iv tv ov).st 0 d c)
    = (iprop((iLoc d ↦{fullShare} iv d) ∗ (tLoc d ↦{fullShare} tv d) ∗ oLoc d ↦{fullShare} ov d) : sProp 𝕄) :=
  (bigSep_cores (F := F) fun c => corePts iv tv d c (ov d)).trans (arrays_tiles iv tv d (ov d)).symm
theorem dn0_eq (d : Dev nD) : (bigSep Finset.univ fun c : Fin ((K (F := F)).nCore 0) => (P iv tv ov).dn 0 d c)
    = (iprop((iLoc d ↦{fullShare} iv d) ∗ (tLoc d ↦{fullShare} tv d) ∗ oLoc d ↦{fullShare} gathered (iv d) (tv d)) : sProp 𝕄) :=
  (bigSep_cores (F := F) fun c => corePts iv tv d c (gathered (iv d) (tv d))).trans (arrays_tiles iv tv d _).symm

/-! ## The ghost state at the launch -/

abbrev pinned := Pipeline.pin (pcfgs (F := F)) (adm (F := F))

theorem cells_inj : Function.Injective (Pipeline.cellOf (nD := nD) (τ := τ) (pinned (F := F))) := cellOf_inj

/-- The table pipeline's rounds, inside the certificate's ghost state. -/
def EP : Emb UP (MT nD τ sig (HIx 1) (Elt F) ℕ UU ℕ) := (Emb.inl : Emb UP (UP × Counters)).trans embR
instance EP_lands : (EP (F := F)).LandsIn (upEmb : UEmb _ 𝕄) := by unfold EP; infer_instance

def uP : UP := initOf (Pipeline.cells (pinned (F := F)) cells_inj) (Pipeline.launchToks (pinned (F := F)) cells_inj)
def u₀ : UU := (initOf (K (F := F)).hsCells (K (F := F)).hsToks, (uP (F := F), 1))

/-- What the launch gives a device's host thread for the table's call. -/
abbrev G (d : Dev nD) : sProp 𝕄 :=
  iprop(Pipeline.cellsGhost (pinned (F := F)) (EP (F := F)) 0 d ∗ Pipeline.toksInit (pinned (F := F)) (EP (F := F)) 0 d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P iv tv ov).x q thr) := by
  unfold u₀
  iintro Hu
  ihave H := (ownU_pair (initOf (K (F := F)).hsCells (K (F := F)).hsToks) ((uP (F := F), 1) : UP × Counters)) $$ Hu
  icases H with ⟨HH, HR⟩
  ihave HR' := own_pair_emb embR (uP (F := F)) (1 : Counters) $$ HR
  icases HR' with ⟨HP, -⟩
  ihave HP := (show (BI.own (((Emb.inl : Emb UP (UP × Counters)).trans (embR : Emb (UP × Counters) 𝕄)) (uP (F := F))) : sProp 𝕄)
    ⊢ BI.own (EP (F := F) (initOf (Pipeline.cells (pinned (F := F)) cells_inj) (Pipeline.launchToks (pinned (F := F)) cells_inj))) from .rfl) $$ HP
  imod ((Pipeline.fund_ghost (pinned (F := F)) (EP (F := F)) cells_inj)) $$ HP with ⟨Hg, Ht⟩
  imodintro
  isplitl [HH]; · iexact HH
  isplitl [Hg Ht]
  · rw [bigSep_sep']
    isplitl [Hg]
    · rw [show (bigSep Finset.univ fun d : Dev nD => Pipeline.cellsGhost (pinned (F := F)) (EP (F := F)) 0 d : sProp 𝕄)
        = bigSep Finset.univ fun c : Dev nD => bigSep Finset.univ fun p => Pipeline.cellsGhost (pinned (F := F)) (EP (F := F)) p c from
        bigSep_congr fun d _ => (bigSep_univ_of_subsingleton (Φ := fun p => Pipeline.cellsGhost (pinned (F := F)) (EP (F := F)) p d) (0 : Fin 1)).symm]
      iexact Hg
    · rw [show (bigSep Finset.univ fun d : Dev nD => Pipeline.toksInit (pinned (F := F)) (EP (F := F)) 0 d : sProp 𝕄)
        = bigSep Finset.univ fun c : Dev nD => bigSep Finset.univ fun p => Pipeline.toksInit (pinned (F := F)) (EP (F := F)) p c from
        bigSep_congr fun d _ => (bigSep_univ_of_subsingleton (Φ := fun p => Pipeline.toksInit (pinned (F := F)) (EP (F := F)) p d) (0 : Fin 1)).symm]
      iexact Ht
  rw [show (bigSep Finset.univ fun thr : Thread nD τ => bigSep Finset.univ fun q : Fin 1 => (P iv tv ov).x q thr) = bigSep Finset.univ fun _ => iprop(emp) from
    bigSep_congr fun _ _ => bigSep_univ_of_subsingleton (0 : Fin 1), bigSep_emp']
  iempintro

end Launch

end Cert.Proof.Run

end
-- ==== Proof.Main.lean ====
/-
  The kernel's whole run. The host thread enters the table's call, computes the flat index of every entry and lays the
  table out flat, starts the gather, and reshapes what the gather leaves; every run ends with the result at that
  value and the arguments as they were.
-/
module

public import proofs.«01_k».proof.Proof.Launch
public import Idealize.ShloMosaic.Lib.Pipeline.Frame

@[expose] public section

noncomputable section

namespace Cert.Proof.Run

open Cert.KernelIdeal Cert.KernelIdeal.Gen

open Idealize.ShloMosaic
open Idealize.ShloMosaic.TcCoe
open Idealize.ShloMosaic.SparseCore (S V)
open Idealize.ShloMosaic.SparseCore.Cfg (HIx Pay)
open Idealize.ShloMosaic.StableHlo (held after seq wp_hlo_within)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Main

variable (m : (ℓ : Loc nD τ sig) → Buf (Elt F) ℓ) (ρ : Dev nD → PrngReg)

/-! ## The host operations and the contents they leave -/

/-- The operations between the two kernels: the flat index of every entry, and the table laid out flat. -/
abbrev opsA : List (HloOp τ sig (Elt F)) :=
  [ StableHlo.unary main_arg1 main_v1 ((extractStridedSlice S196608x1 ![0, 1] · slices_S196608x3_S196608x1_0_1) : (⟨S196608x3, .i32⟩ : BufTy).Contents (Elt F) → (⟨S196608x1, .i32⟩ : BufTy).Contents (Elt F)),
    StableHlo.reshape main_v1 main_v2 (rfl : (.i32 : EltTy) = .i32) shapeCasts_S196608x1_S196608,
    StableHlo.nullary main_c (constantI S_ 32 256#32),
    StableHlo.unary main_c main_v3 (broadcastInDim S196608 ![] bcast_S_S196608 : (⟨S_, .i32⟩ : BufTy).Contents (Elt F) → (⟨S196608, .i32⟩ : BufTy).Contents (Elt F)),
    StableHlo.binary main_v2 main_v3 main_v4 (muli : (⟨S196608, .i32⟩ : BufTy).Contents (Elt F) → (⟨S196608, .i32⟩ : BufTy).Contents (Elt F) → (⟨S196608, .i32⟩ : BufTy).Contents (Elt F)),
    StableHlo.unary main_arg1 main_v5 ((extractStridedSlice S196608x1 ![0, 2] · slices_S196608x3_S196608x1_0_2) : (⟨S196608x3, .i32⟩ : BufTy).Contents (Elt F) → (⟨S196608x1, .i32⟩ : BufTy).Contents (Elt F)),
    StableHlo.reshape main_v5 main_v6 (rfl : (.i32 : EltTy) = .i32) shapeCasts_S196608x1_S196608,
    StableHlo.nullary main_c_0 (constantI S_ 32 16#32),
    StableHlo.unary main_c_0 main_v7 (broadcastInDim S196608 ![] bcast_S_S196608 : (⟨S_, .i32⟩ : BufTy).Contents (Elt F) → (⟨S196608, .i32⟩ : BufTy).Contents (Elt F)),
    StableHlo.binary main_v6 main_v7 main_v8 (muli : (⟨S196608, .i32⟩ : BufTy).Contents (Elt F) → (⟨S196608, .i32⟩ : BufTy).Contents (Elt F) → (⟨S196608, .i32⟩ : BufTy).Contents (Elt F)),
    StableHlo.binary main_v4 main_v8 main_v9 (addi : (⟨S196608, .i32⟩ : BufTy).Contents (Elt F) → (⟨S196608, .i32⟩ : BufTy).Contents (Elt F) → (⟨S196608, .i32⟩ : BufTy).Contents (Elt F)),
    StableHlo.unary main_arg1 main_v10 ((extractStridedSlice S196608x1 ![0, 0] · slices_S196608x3_S196608x1_0_0) : (⟨S196608x3, .i32⟩ : BufTy).Contents (Elt F) → (⟨S196608x1, .i32⟩ : BufTy).Contents (Elt F)),
    StableHlo.reshape main_v10 main_v11 (rfl : (.i32 : EltTy) = .i32) shapeCasts_S196608x1_S196608,
    StableHlo.binary main_v9 main_v11 main_v12 (addi : (⟨S196608, .i32⟩ : BufTy).Contents (Elt F) → (⟨S196608, .i32⟩ : BufTy).Contents (Elt F) → (⟨S196608, .i32⟩ : BufTy).Contents (Elt F)),
    StableHlo.reshape main_v0 main_v13 (rfl : (.f32 : EltTy) = .f32) shapeCasts_S2x256x16_S8192 ]

/-- The last operation: the gathered array as the result's shape. -/
abbrev opB : HloOp τ sig (Elt F) := StableHlo.reshape main_v14 main_v15 (rfl : (.f32 : EltTy) = .f32) shapeCasts_S393216_S2x12x128x128

theorem main_eq (d : Dev nD) : main (F := F) d
    = Prog.lift (.customCall (SparseCore.inner (Pipeline.entry 0)) ()) >>= fun _ => seq opsA >>= fun _ => sc.run d 0 >>= fun _ => seq [opB] := rfl

theorem opsA_sub : ∀ op ∈ (opsA : List (HloOp τ sig (Elt F))), op.bufs ⊆ ucRefs τ sig := fun op h =>
  Pipeline.sub_ucRefs op (List.forall_iff_forall_mem.mp
    (show (opsA : List (HloOp τ sig (Elt F))).Forall fun op => op.bufs ⊆ StableHlo.tcRefs τ sig from ⟨StableHlo.unary_bufs_sub .., StableHlo.reshape_bufs_sub .., StableHlo.nullary_bufs_sub .., StableHlo.unary_bufs_sub .., StableHlo.binary_bufs_sub .., StableHlo.unary_bufs_sub .., StableHlo.reshape_bufs_sub .., StableHlo.nullary_bufs_sub .., StableHlo.unary_bufs_sub .., StableHlo.binary_bufs_sub .., StableHlo.binary_bufs_sub .., StableHlo.unary_bufs_sub .., StableHlo.reshape_bufs_sub .., StableHlo.binary_bufs_sub .., StableHlo.reshape_bufs_sub ..⟩) op h)
theorem opsA_fresh : ∀ op ∈ (opsA : List (HloOp τ sig (Elt F))), op.fresh = ∅ := fun op h =>
  List.forall_iff_forall_mem.mp (show (opsA : List (HloOp τ sig (Elt F))).Forall fun op => op.fresh = ∅ from ⟨rfl, rfl, rfl, rfl, rfl, rfl, rfl, rfl, rfl, rfl, rfl, rfl, rfl, rfl, rfl⟩) op h
theorem opB_sub : (opB : HloOp τ sig (Elt F)).bufs ⊆ ucRefs τ sig := Pipeline.sub_ucRefs _ (StableHlo.reshape_bufs_sub ..)

/-- The unscoped buffers at the launch, as the table's call finds them; -/
abbrev Vin : (c : Dev nD) → (b : Ref sig .tc) → Buf (Elt F) ((c : Thread nD τ).loc b) := fun c b => m ((c : Thread nD τ).loc b)
/-- the table the call leaves; -/
def table (d : Dev nD) : S2x256x16.Idx → F .f32 := tableOf (Vin m) d
/-- every buffer at the launch, after the table's call, before the gather, after it, at the end. -/
def W0 (d : Dev nD) : Valuation τ sig (Elt F) := fun b => m (d, b)
def W1 (d : Dev nD) : Valuation τ sig (Elt F) := Function.update (W0 m d) (Proc.devRef .tc main_v0) (table m d)
def W2 (d : Dev nD) : Valuation τ sig (Elt F) := after opsA (W1 m d)
def iv (d : Dev nD) : Buf (Elt F) (iLoc d) := W2 m d (Proc.devRef .tc main_v12)
def tv (d : Dev nD) : Buf (Elt F) (tLoc d) := W2 m d (Proc.devRef .tc main_v13)
def ov (d : Dev nD) : Buf (Elt F) (oLoc d) := W2 m d (Proc.devRef .tc main_v14)
def W3 (d : Dev nD) : Valuation τ sig (Elt F) := Function.update (W2 m d) (Proc.devRef .tc main_v14) (gathered (iv m d) (tv m d))
def W4 (d : Dev nD) : Valuation τ sig (Elt F) := opB.result (W3 m d)

abbrev Vout : (c : Dev nD) → (b : Ref sig .tc) → Buf (Elt F) ((c : Thread nD τ).loc b) := fun c b => W1 m c (Proc.devRef .tc b)

theorem Vout_table (c : Dev nD) : Vout m c main_v0 = tableOf (Vin m) c := Function.update_self ..
theorem Vout_ne (c : Dev nD) (b : Ref sig .tc) (h : b ≠ main_v0) : Vout m c b = Vin m c b :=
  Function.update_of_ne (fun e => h (Proc.devRef_injective _ e)) ..

/-- The table's call on these contents. -/
abbrev regT := reg (Vin m) (Vout m) (Vout_table m) (Vout_ne m)

theorem regT_pre (d : Dev nD) : (regT m).pre d
    = iprop(unscopedBufs d (Vin m d) ∗ ∃ W, ⌜∀ p ∈ W, p ∈ lowPairs (F := F) d⌝ ∗ owes (d : Thread nD τ) ((K (F := F)).Otc d 0) W) := rfl
theorem regT_post (d : Dev nD) : (regT m).post d
    = iprop(unscopedBufs d (Vout m d) ∗ ∃ W, ⌜∀ p ∈ W, p ∈ lowPairs (F := F) d⌝ ∗ owes (d : Thread nD τ) ((K (F := F)).Otc d 0) W) := rfl

/-! ## The two calls -/

/-- The table's call, as a program of the pipeline's own signature. -/
abbrev callT : Prog (TpuEff nD τ sig (Elt F) (ΛP (F := F)) .tc) PUnit := .op (.customCall (Pipeline.entry (0 : Fin 1)) ()) fun _ => .ret ⟨⟩

/-- The table's call as the host thread runs it. -/
theorem wp_table [∀ e, Nonempty (Elt F e)] (d : Dev nD) (Q : PUnit.{1} → sProp 𝕄) :
    iprop((iprop(boundary (d.tc : Thread nD τ) ∗ (regT m).post d) -∗ Q ⟨⟩)
        ∗ boundary (d.tc : Thread nD τ) ∗ (regT m).pre d ∗ levAts (K (F := F)).L (K (F := F)).lev ∗ G (F := F) d)
      ⊢ wp frame (wpE ((K (F := F)).defs (D (F := F))) 𝒱 (SparseCore.T d) none) Set.univ
          (Prog.lift (.customCall (SparseCore.inner (Pipeline.entry 0)) ())) Q := by
  have key : iprop((iprop(boundary (d.tc : Thread nD τ) ∗ (regT m).post d) -∗ wp frame (wpE (D (F := F)) 𝒱 (d.tc : Thread nD τ) none) Set.univ (.ret ⟨⟩) Q)
        ∗ boundary (d.tc : Thread nD τ) ∗ (regT m).pre d ∗ levAts (K (F := F)).L (K (F := F)).lev ∗ G (F := F) d)
      ⊢ wp frame (wpE (D (F := F)) 𝒱 (SparseCore.T d) none) Set.univ (callT (F := F)) Q :=
    Pipeline.RegionSeg.wp (pcfgs (F := F)) adm (pdats (Vin m)) none cells_inj (EP (F := F)) defs₀ 𝒱₀ (K (F := F)).L (K (F := F)).lev
      (regT m) d none (fun u h => nomatch h) (α := PUnit.{1}) (fun _ => .ret ⟨⟩) Q
  have start : iprop((iprop(boundary (d.tc : Thread nD τ) ∗ (regT m).post d) -∗ Q ⟨⟩)
        ∗ boundary (d.tc : Thread nD τ) ∗ (regT m).pre d ∗ levAts (K (F := F)).L (K (F := F)).lev ∗ G (F := F) d)
      ⊢ iprop((iprop(boundary (d.tc : Thread nD τ) ∗ (regT m).post d) -∗ wp frame (wpE (D (F := F)) 𝒱 (d.tc : Thread nD τ) none) Set.univ (.ret ⟨⟩) Q)
        ∗ boundary (d.tc : Thread nD τ) ∗ (regT m).pre d ∗ levAts (K (F := F)).L (K (F := F)).lev ∗ G (F := F) d) := by
    iintro ⟨Hk, Hrest⟩
    isplitl [Hk]
    · iintro H
      rw [wp_ret]; imodintro
      iapply Hk; iexact H
    iexact Hrest
  exact start.trans (key.trans ((K (F := F)).wp_liftProg (D (F := F)) 𝒱 (SparseCore.T d) Set.univ none (callT (F := F)) Q))

/-- The three arrays of the gather, out of the host thread's buffers. -/
def gatherRefs : Finset (DevRef τ sig) := {Proc.devRef .tc main_v12, Proc.devRef .tc main_v13, Proc.devRef .tc main_v14}
omit [FloatOps F] in
theorem mem_uc (b : Ref sig .tc) (h : b.isScoped = false) : (Proc.devRef .tc b : DevRef τ sig) ∈ ucRefs τ sig :=
  Finset.mem_filter.mpr ⟨Finset.mem_map_of_mem _ (Finset.mem_univ b), fun e => Bool.false_ne_true (h.symm.trans e)⟩
omit [FloatOps F] in
theorem gatherRefs_sub : gatherRefs ⊆ ucRefs τ sig := by
  unfold gatherRefs
  exact Finset.insert_subset (mem_uc _ rfl) (Finset.insert_subset (mem_uc _ rfl) (Finset.singleton_subset_iff.mpr (mem_uc _ rfl)))
omit [FloatOps F] in
theorem held_gather (d : Dev nD) (W : Valuation τ sig (Elt F)) :
    (held (SparseCore.T d) gatherRefs W : sProp 𝕄)
      = iprop((iLoc d ↦{fullShare} W (Proc.devRef .tc main_v12)) ∗ (tLoc d ↦{fullShare} W (Proc.devRef .tc main_v13)) ∗ oLoc d ↦{fullShare} W (Proc.devRef .tc main_v14)) := by
  unfold held gatherRefs
  rw [SparseCore.bigSep_insert' (by decide), SparseCore.bigSep_insert' (by decide), bigSep_singleton]

theorem W3_gather (d : Dev nD) :
    (held (SparseCore.T d) gatherRefs (W3 m d) : sProp 𝕄)
      = iprop((iLoc d ↦{fullShare} iv m d) ∗ (tLoc d ↦{fullShare} tv m d) ∗ oLoc d ↦{fullShare} gathered (iv m d) (tv m d)) := by
  rw [held_gather]
  unfold W3
  rw [Function.update_of_ne (by decide), Function.update_of_ne (by decide), Function.update_self]
  rfl
theorem W3_rest (d : Dev nD) :
    (held (SparseCore.T d) (ucRefs τ sig \ gatherRefs) (W3 m d) : sProp 𝕄) = held (SparseCore.T d) (ucRefs τ sig \ gatherRefs) (W2 m d) :=
  StableHlo.held_congr _ fun b hb => Function.update_of_ne (fun e => (Finset.mem_sdiff.mp hb).2 (by rw [e]; decide)) ..

/-! ## The host thread -/

theorem pre_held (d : Dev nD) : (unscopedBufs d (Vin m d) : sProp 𝕄) = held (SparseCore.T d) (ucRefs τ sig) (W0 m d) :=
  Pipeline.unscopedBufs_held d (W0 m d)
theorem post_held (d : Dev nD) : (unscopedBufs d (Vout m d) : sProp 𝕄) = held (SparseCore.T d) (ucRefs τ sig) (W1 m d) :=
  Pipeline.unscopedBufs_held d (W1 m d)

abbrev FIN (d : Dev nD) : sProp 𝕄 := held (SparseCore.T d) (ucRefs τ sig) (W4 m d)

/-- What the launch asks of the host thread's signals, at these contents. -/
abbrev PT := P (F := F) (iv m) (tv m) (ov m)

set_option backward.isDefEq.respectTransparency.types false in
/-- @main on a device's TensorCore. -/
theorem hmain [∀ e, Nonempty (Elt F e)] (κ : GSem nD τ sig → ℕ) (d : Dev nD) :
    iprop((K (F := F)).ctx EH (PT m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, wp_bind]
  iintro ⟨#Hctx, Hst, ⟨Hb, Hbufs, Hts, -⟩, Hg⟩
  ihave #Hlv := ((K (F := F)).ctx_levAts κ) $$ Hctx
  -- the table's call, under what the host thread owes the SparseCores
  ihave Hst' := (show (K (F := F)).tcSt EH d 0 ⊢ iprop((∃ W, ⌜(K (F := F)).WBelow (SparseCore.T d) W 0⌝ ∗ owes (SparseCore.T d) ((K (F := F)).Otc d 0) W)
    ∗ atPos EH ((K (F := F)).doneCell d) 0 ∅ 0 ∗ _) from .rfl) $$ Hst
  icases Hst' with ⟨⟨%W, %hW, HO⟩, Hst⟩
  iapply (wp_table m d _)
  rw [regT_pre, regT_post]
  isplitr [Hb Hbufs HO Hg]
  swap
  · isplitl [Hb]; · iexact Hb
    isplitl [Hbufs HO]
    · isplitl [Hbufs]; · iexact Hbufs
      iexists W; isplitr
      · ipureintro; exact hW
      iexact HO
    isplitr; · iexact Hlv
    iexact Hg
  iintro ⟨Hb, Hbufs, ⟨%W', %hW', HO⟩⟩
  ihave Hh := (Entails.of_eq (post_held m d)) $$ Hbufs
  -- the host operations between the two calls
  iapply (StableHlo.wp_seq 𝒱 none Set.univ d (ucRefs τ sig) _ opsA opsA_sub opsA_fresh (W1 m d)) $$ [Hb Hh]
  · isplitl [Hb]; · iexact Hb
    iexact Hh
  iintro ⟨Hb, Hh⟩
  -- the gather: its three arrays out of the buffers, gathered, and back
  rw [wp_bind]
  ihave Hh := (show (held (d.tc : Thread nD τ) (ucRefs τ sig) (after opsA (W1 m d)) : sProp 𝕄) ⊢ held (SparseCore.T d) (ucRefs τ sig) (W2 m d) from .rfl) $$ Hh
  ihave Hs := (Entails.of_eq (StableHlo.held_sub_split (SparseCore.T d) gatherRefs_sub (W2 m d))) $$ Hh
  icases Hs with ⟨Hg, Hr⟩
  iapply ((K (F := F)).wp_run (D (F := F)) 𝒱 (EH := EH) (P := PT m) κ d 0) $$ [Hst HO Hg Hr Hb Hts]
  isplitr; · iexact Hctx
  isplitl [Hst HO]
  · iapply (show iprop((∃ W, ⌜(K (F := F)).WBelow (SparseCore.T d) W 0⌝ ∗ owes (SparseCore.T d) ((K (F := F)).Otc d 0) W)
      ∗ atPos EH ((K (F := F)).doneCell d) 0 ∅ 0 ∗ _) ⊢ (K (F := F)).tcSt EH d 0 from .rfl)
    isplitl [HO]
    · iexists W'; isplitr
      · ipureintro; exact hW'
      iexact HO
    iexact Hst
  isplitl [Hg]
  · rw [st0_eq]
    ihave Hg' := (Entails.of_eq (held_gather d (W2 m d))) $$ Hg
    iexact Hg'
  iintro ⟨Hst, Hdn⟩
  ihave Hdn' := (Entails.of_eq ((dn0_eq (iv m) (tv m) (ov m) d).trans (W3_gather m d).symm)) $$ Hdn
  ihave Hr' := (Entails.of_eq (W3_rest m d).symm) $$ Hr
  ihave Hh := (Entails.of_eq (StableHlo.held_sub_split (SparseCore.T d) gatherRefs_sub (W3 m d)).symm) $$ [Hdn' Hr']
  · isplitl [Hdn'] <;> iassumption
  -- the result's shape
  simp only [seq, wp_bind]
  iapply (wp_hlo_within 𝒱 (SparseCore.T d) none Set.univ (op := opB) (S := ucRefs τ sig) opB_sub (V := W3 m d)) $$ [Hb Hh]
  · isplitl [Hb]; · iexact Hb
    iexact Hh
  iintro ⟨Hb, Hh⟩
  rw [wp_ret]; imodintro
  simp only [wp_pure]; imodintro
  isplitl [Hst]; · iexact Hst
  isplitl [Hh]; · iexact Hh
  isplitl [Hb] <;> iassumption

/-! ## The run -/

omit [FloatOps F] in
/-- A held buffer is what the memory has. -/
theorem held_read (d : Dev nD) (W : Valuation τ sig (Elt F)) (s' : Phys nD τ sig (Elt F)) (b : DevRef τ sig) (hb : b ∈ ucRefs τ sig) :
    iprop(held (SparseCore.T d) (ucRefs τ sig) W ∗ SI s') ⊢ (⌜s'.mem.mem (d, b) = W b⌝ : sProp 𝕄) := by
  iintro ⟨Hh, HSI⟩
  ihave Hp := (show (held (SparseCore.T d) (ucRefs τ sig) W : sProp 𝕄) ⊢ ((d, b) : Loc nD τ sig) ↦{fullShare} W b from
    bigSep_elim (Φ := fun b => (((d, b) : Loc nD τ sig) ↦{fullShare} W b : sProp 𝕄)) hb) $$ Hh
  ihave H := (SI_pointsTo_agree (st := s') (ℓ := (d, b)) (I := Finset.univ) (q := fullShare) (f := W b)) $$ [HSI Hp]
  · isplitl [HSI] <;> iassumption
  icases H with %h
  ipureintro; exact funext fun i => h i (Finset.mem_univ i)

def fq (d : Dev nD) (s' : Phys nD τ sig (Elt F)) : Prop := ∀ b ∈ ucRefs τ sig, s'.mem.mem (d, b) = W4 m d b

theorem hfin (d : Dev nD) (s' : Phys nD τ sig (Elt F)) : iprop(FIN m d ∗ SI s') ⊢ (⌜fq m d s'⌝ : sProp 𝕄) :=
  (forall_intro fun b => (forall_intro fun hb => held_read d (W4 m d) s' b hb).trans pure_forall.2).trans pure_forall.2

def QC : PUnit × MemSt nD τ sig (Elt F) → Prop := fun r =>
  (∀ c : Dev nD, ∀ b ∈ ucRefs τ sig, r.2.mem (c, b) = W4 m c b) ∧ r.2.sem = fun _ => 0

/-- Every run from `m` ends with every unscoped buffer at its final contents and every semaphore at zero. -/
theorem run_held [∀ e, Nonempty (Elt F e)] (hpre : InRange (iv m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PT m) (A := ∅) scFacts v₀
    (fun q hq => match q with | 0 => nomatch hq)
    (fun q _ => match q with | 0 => tileObl (iv m) (tv m) (ov m) scFacts hpre)
    (fun q _ => match q with | 0 => SparseCore.Cfg.VecSplit.of_plain (vecSplit (iv m) (tv m) (ov m)))
    m ρ main (fun d => G (F := F) d) (FIN m) (u₀ (F := F)) (sep_elim_left.trans (hu₀ (iv m) (tv m) (ov m))) (hmain m ρ) (fq m) (hfin m) (QC m) (fun _ h hz => ⟨h, hz⟩)

end Main

end Cert.Proof.Run

end
-- ==== Proof.Value.lean ====
/-
  What the run leaves, in plain terms: the arguments as they were, the index of every entry as a sum over its three
  coordinates, the table laid out flat, and the result as the gathered entries reshaped. From the stated range of the
  coordinates every index lies inside half a table.
-/
module

public import proofs.«01_k».proof.Proof.Main
public import proofs.«01_k».proof.Proof.Gen.Pre_in_range
public import Idealize.ShloMosaic.Lib.ReduceAll
public import Idealize.ShloMosaic.Lib.Affine
public import Idealize.ShloMosaic.Lib.Pointwise

@[expose] public section

noncomputable section

namespace Cert.Proof.Run

open Cert.KernelIdeal Cert.KernelIdeal.Gen

open Idealize.ShloMosaic
open Idealize.ShloMosaic.TcCoe
open Idealize.ShloMosaic.StableHlo (after)
open Idealize.ShloMosaic.Pipeline (ucRefs)
open Idealize.SL.Sem

variable {F : FTy → Type} [FloatOps F]

/-! ## The range of the coordinates -/

/-- Every coordinate of every entry lies in `0 … 11`. -/
def Small (x : S196608x3.Idx → BitVec 32) : Prop := ∀ j, (x j).toNat < 12

/-- The stated precondition, read at one coordinate. -/
theorem small_of_pre (a0 : FVec F Cert.Pre_in_range.S2x128x768 .f32) (a1 : IVec Cert.Pre_in_range.S196608x3 32)
    (a2 a3 : FVec F Cert.Pre_in_range.S64x768 .f32) (a4 : FVec F Cert.Pre_in_range.S12x64 .f32) (a5 : FVec F Cert.Pre_in_range.S1x64 .f32)
    (h : Cert.Pre_in_range.fn a0 a1 a2 a3 a4 a5 = fun _ => 1#1) : Small a1 := by
  intro j
  have e := congrFun h (fun a => a.elim0)
  dsimp only [Cert.Pre_in_range.fn] at e
  haveI : Subsingleton Cert.Pre_in_range.S_.Idx := ⟨fun a b => funext fun i => i.elim0⟩
  have e1 := Host.reduce_andi_all _ _ _ _ _ e j
  have e2 : IntOp.andi (IntOp.cmpi .sge (a1 j) 0#32) (IntOp.cmpi .slt (a1 j) 12#32) = 1#1 := e1
  obtain ⟨h1, h2⟩ := IntOp.andi_eq_one.1 e2
  rw [IntOp.cmpi_sge] at h1
  rw [IntOp.cmpi_slt] at h2
  simp only [BitVec.toInt_eq_toNat_cond, BitVec.toNat_ofNat, Nat.reducePow, Nat.reduceMod] at h1 h2
  omega

/-! ## What the host operations leave -/

variable (m : (ℓ : Loc nD τ sig) → Buf (Elt F) ℓ) (ρ : Dev nD → PrngReg)

/-- The coordinates of the entries, as the run finds them. -/
abbrev coords (d : Dev nD) : S196608x3.Idx → BitVec 32 := m ((d.tc : Thread nD τ).loc main_arg1)

/-- Column `k` of the coordinates. -/
abbrev col0 (x : S196608x3.Idx → BitVec 32) : S196608.Idx → BitVec 32 :=
  shapeCast S196608 (extractStridedSlice S196608x1 ![0, 0] x slices_S196608x3_S196608x1_0_0) shapeCasts_S196608x1_S196608
abbrev col1 (x : S196608x3.Idx → BitVec 32) : S196608.Idx → BitVec 32 :=
  shapeCast S196608 (extractStridedSlice S196608x1 ![0, 1] x slices_S196608x3_S196608x1_0_1) shapeCasts_S196608x1_S196608
abbrev col2 (x : S196608x3.Idx → BitVec 32) : S196608.Idx → BitVec 32 :=
  shapeCast S196608 (extractStridedSlice S196608x1 ![0, 2] x slices_S196608x3_S196608x1_0_2) shapeCasts_S196608x1_S196608

theorem iv_eq (d : Dev nD) : (iv m d : S196608.Idx → BitVec 32)
    = addi (addi (muli (col1 (coords m d)) (broadcastInDim S196608 ![] bcast_S_S196608 (constantI S_ 32 256#32)))
        (muli (col2 (coords m d)) (broadcastInDim S196608 ![] bcast_S_S196608 (constantI S_ 32 16#32)))) (col0 (coords m d)) := by
  unfold iv W2 opsA
  after_results_simp
  rw [show W1 m d (Proc.devRef .tc main_arg1) = m ((d.tc : Thread nD τ).loc main_arg1) from
    Function.update_of_ne (by decide) _ _]
  rfl

theorem tv_eq (d : Dev nD) : (tv m d : S8192.Idx → F .f32) = shapeCast S8192 (table m d) shapeCasts_S2x256x16_S8192 := by
  unfold tv W2 opsA
  after_results_simp
  rw [show W1 m d (Proc.devRef .tc main_v0) = table m d from Function.update_self _ _ _]
  rfl

theorem out_eq (d : Dev nD) : (W4 m d (Proc.devRef .tc main_v15) : S2x12x128x128.Idx → F .f32)
    = shapeCast S2x12x128x128 (gathered (iv m d) (tv m d)) shapeCasts_S393216_S2x12x128x128 := by
  show after [opB] (W3 m d) (Proc.devRef .tc main_v15) = _
  unfold opB
  after_results_simp
  rw [show W3 m d (Proc.devRef .tc main_v14) = gathered (iv m d) (tv m d) from Function.update_self _ _ _]
  rfl

/-- A buffer no operation and neither kernel writes ends as it began. -/
theorem kept (d : Dev nD) (b : Ref sig .tc) (h0 : b ≠ main_v0) (h14 : b ≠ main_v14)
    (hA : after opsA (W1 m d) (Proc.devRef .tc b) = W1 m d (Proc.devRef .tc b)) (hB : after [opB] (W3 m d) (Proc.devRef .tc b) = W3 m d (Proc.devRef .tc b)) :
    W4 m d (Proc.devRef .tc b) = m ((d.tc : Thread nD τ).loc b) := by
  refine Eq.trans hB (Eq.trans (Function.update_of_ne (fun e => h14 (Proc.devRef_injective _ e)) ..) (Eq.trans hA ?_))
  exact Function.update_of_ne (fun e => h0 (Proc.devRef_injective _ e)) ..

theorem args_kept (d : Dev nD) :
    W4 m d (Proc.devRef .tc main_arg0) = m ((d.tc : Thread nD τ).loc main_arg0) ∧ W4 m d (Proc.devRef .tc main_arg1) = m ((d.tc : Thread nD τ).loc main_arg1)
    ∧ W4 m d (Proc.devRef .tc main_arg2) = m ((d.tc : Thread nD τ).loc main_arg2) ∧ W4 m d (Proc.devRef .tc main_arg3) = m ((d.tc : Thread nD τ).loc main_arg3)
    ∧ W4 m d (Proc.devRef .tc main_arg4) = m ((d.tc : Thread nD τ).loc main_arg4) ∧ W4 m d (Proc.devRef .tc main_arg5) = m ((d.tc : Thread nD τ).loc main_arg5) := by
  refine ⟨kept m d _ (by decide) (by decide) ?_ ?_, kept m d _ (by decide) (by decide) ?_ ?_, kept m d _ (by decide) (by decide) ?_ ?_,
    kept m d _ (by decide) (by decide) ?_ ?_, kept m d _ (by decide) (by decide) ?_ ?_, kept m d _ (by decide) (by decide) ?_ ?_⟩ <;>
  · first | unfold opsA | unfold opB
    after_results_simp

/-! ## The index of an entry -/

/-- Coordinate `k` of entry `n`. -/
def cw (x : S196608x3.Idx → BitVec 32) (n : Fin 196608) (k : Fin 3) : ℕ := (x (ix2 n k)).toNat

theorem col0_apply (x : S196608x3.Idx → BitVec 32) (j : S196608.Idx) : col0 x j = x (ix2 (j 0) 0) := by
  pointwise [col0]
theorem col1_apply (x : S196608x3.Idx → BitVec 32) (j : S196608.Idx) : col1 x j = x (ix2 (j 0) 1) := by
  pointwise [col1]
theorem col2_apply (x : S196608x3.Idx → BitVec 32) (j : S196608.Idx) : col2 x j = x (ix2 (j 0) 2) := by
  pointwise [col2]

theorem iv_toNat (d : Dev nD) (h : Small (coords m d)) (j : S196608.Idx) :
    ((iv m d : S196608.Idx → BitVec 32) j).toNat = cw (coords m d) (j 0) 1 * 256 + cw (coords m d) (j 0) 2 * 16 + cw (coords m d) (j 0) 0 := by
  rw [iv_eq]
  show (col1 (coords m d) j * 256#32 + col2 (coords m d) j * 16#32 + col0 (coords m d) j).toNat = _
  rw [col0_apply, col1_apply, col2_apply]
  have h0 := h (ix2 (j 0) 0); have h1 := h (ix2 (j 0) 1); have h2 := h (ix2 (j 0) 2)
  unfold cw
  simp only [BitVec.toNat_add, BitVec.toNat_mul, BitVec.toNat_ofNat]
  omega

/-- Every index lies inside half a table. -/
theorem inRange (h : ∀ d, Small (coords m d)) : InRange (iv m) := by
  intro d j
  have e := iv_toNat m d (h d) j
  have h0 := h d (ix2 (j 0) 0); have h1 := h d (ix2 (j 0) 1); have h2 := h d (ix2 (j 0) 2)
  unfold cw at e
  show ((iv m d : S196608.Idx → BitVec 32) j).toNat < 4096
  omega

/-! ## The frame -/

/-- Every run ends with the result as gathered, the arguments as they were and every counter at zero. -/
theorem run_main [∀ e, Nonempty (Elt F e)] (h : ∀ d, Small (coords m d)) :
    θ_run (Cert.KernelIdeal.defs (F := F)) (Cert.KernelIdeal.threads (F := F)) ⟨m, fun _ => 0, ρ⟩ fun r => (∀ c : Dev nD,
      r.2.mem ((c.tc : Thread nD τ).loc main_v15) = W4 m c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0 := by
  refine (θ_run Cert.KernelIdeal.defs _ _).mono (fun r hr => ⟨fun c => ?_, hr.2⟩) (run_held m ρ (inRange m h))
  have k := args_kept m c
  exact ⟨hr.1 c _ (mem_uc main_v15 rfl), (hr.1 c _ (mem_uc main_arg0 rfl)).trans k.1, (hr.1 c _ (mem_uc main_arg1 rfl)).trans k.2.1,
    (hr.1 c _ (mem_uc main_arg2 rfl)).trans k.2.2.1, (hr.1 c _ (mem_uc main_arg3 rfl)).trans k.2.2.2.1,
    (hr.1 c _ (mem_uc main_arg4 rfl)).trans k.2.2.2.2.1, (hr.1 c _ (mem_uc main_arg5 rfl)).trans k.2.2.2.2.2⟩

end Cert.Proof.Run

end
-- ==== Proof.Frames.lean ====
/-
  The runs as the claims state them: the kernel at bit patterns and at ideal values, and the reference.
-/
module

public import proofs.«01_k».proof.Defs
public import proofs.«01_k».proof.Proof.Value
public import proofs.«01_k».proof.Proof.Gen.Kernel
public import proofs.«01_k».proof.Proof.Gen.ReferenceIdeal.Run

@[expose] public section

noncomputable section

namespace Cert.Proof

open Idealize.ShloMosaic Idealize.SL.Sem Idealize.ShloMosaic.TcCoe

/-- The compiled kernel's bodies are the ones the run was proved of, -/
theorem bodies_eq : Cert.Kernel.defs₀ (F := Bits) = Cert.KernelIdeal.defs₀ (F := Bits) := by
  funext p l a
  cases p with
  | tc => match l with | ⟨0, _⟩ => rfl | ⟨1, _⟩ => rfl
  | scScalar => match l with | ⟨0, _⟩ => rfl | ⟨1, _⟩ => rfl
  | scVector => match l with | ⟨0, _⟩ => rfl | ⟨1, _⟩ => rfl

/-- and so is its whole body table. -/
theorem defs_eq : Cert.Kernel.defs (F := Bits) = Cert.KernelIdeal.defs (F := Bits) :=
  congrArg (fun D => (Cert.KernelIdeal.sc (F := Bits)).defs (Pipeline.defs (Cert.KernelIdeal.pcfgs (F := Bits)) D)) bodies_eq

/-- The kernel as it is compiled. -/
theorem frame_kernel : Cert.quiescent_Kernel := fun m ρ hp => by
  have h : ∀ d, Run.Small (Run.coords (F := Bits) m d) := fun d => Run.small_of_pre _ _ _ _ _ _ (hp d)
  rw [defs_eq]
  exact (θ_run Cert.KernelIdeal.defs _ _).mono (fun _ h => ⟨fun c => (h.1 c).2, h.2⟩) (Run.run_main (F := Bits) m ρ h)

/-- The kernel at ideal values. -/
theorem frame_ideal : Cert.quiescent_KernelIdeal := fun m ρ hp =>
  (θ_run Cert.KernelIdeal.defs _ _).mono (fun _ h => ⟨fun c => (h.1 c).2, h.2⟩)
    (Run.run_main (F := Ideal) m ρ fun d => Run.small_of_pre _ _ _ _ _ _ (hp d))

/-- The reference; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Table.lean ====
/-
  The table's entries at ideal values: row `i * 16 + j` of batch `b`, head `h`, is the sum over the features of the
  product of two projections of the sequence and the head's weight.
-/
module

public import proofs.«01_k».proof.Proof.Value

@[expose] public section

noncomputable section

namespace Cert.Proof.Run

open Cert.KernelIdeal Cert.KernelIdeal.Gen

open Idealize.ShloMosaic
open Idealize.ShloMosaic.TcCoe
open scoped BigOperators

section Table

variable (x0 : FVec Ideal S2x16x768 .f32) (x1 x2 : FVec Ideal S64x768 .f32) (x3 : FVec Ideal S12x64 .f32) (x4 : FVec Ideal S1x64 .f32)

/-- One feature of one staged position of a projection. -/
def proj16 (w : FVec Ideal S64x768 .f32) (b : Fin 2) (p : Fin 16) (r : Fin 64) : EReal := ∑ k : Fin 768, x0 (ix3 b p k) * w (ix2 r k)

theorem pay5_apply (w : Fin 256) (h : Fin 16) :
    k0_pay5 (F := Ideal) x0 x1 x2 x3 x4 (ix3 0 w h)
      = ∑ r : Fin 64, proj16 x0 x1 0 ⟨w.val / 16, by omega⟩ r * proj16 x0 x2 0 ⟨w.val % 16, by omega⟩ r * k0_pay4 (F := Ideal) x3 x4 (ix2 h r) := by
  unfold proj16
  pointwise [k0_pay5, k0_pay3, k0_pay2, k0_pay1]
  refine Finset.sum_congr rfl fun r _ => ?_
  congr 2 <;> refine Finset.sum_congr rfl fun k _ => ?_ <;> congr 3 <;> refine Fin.ext ?_
  · show w.val / 16 / 16 = 0; omega
  · show w.val / 16 % 16 = w.val / 16; omega
  · show w.val % 16 / 16 = 0; omega
  · show w.val % 16 % 16 = w.val % 16; omega

theorem pay6_apply (w : Fin 256) (h : Fin 16) :
    k0_pay6 (F := Ideal) x0 x1 x2 x3 x4 (ix3 0 w h)
      = ∑ r : Fin 64, proj16 x0 x1 1 ⟨w.val / 16, by omega⟩ r * proj16 x0 x2 1 ⟨w.val % 16, by omega⟩ r * k0_pay4 (F := Ideal) x3 x4 (ix2 h r) := by
  unfold proj16
  pointwise [k0_pay6, k0_pay3, k0_pay2, k0_pay1]
  refine Finset.sum_congr rfl fun r _ => ?_
  congr 2 <;> refine Finset.sum_congr rfl fun k _ => ?_ <;> congr 3 <;> refine Fin.ext ?_
  · show (16 + w.val / 16) / 16 = 1; omega
  · show (16 + w.val / 16) % 16 = w.val / 16; omega
  · show (16 + w.val % 16) / 16 = 1; omega
  · show (16 + w.val % 16) % 16 = w.val % 16; omega

theorem pay4_apply (h : Fin 16) (hh : h.val < 12) (r : Fin 64) :
    k0_pay4 (F := Ideal) x3 x4 (ix2 h r) = x3 (ix2 ⟨h.val, hh⟩ r) * x4 (ix2 0 r) := by
  pointwise [k0_pay4]
  exact dif_pos hh

/-- An entry of the table, of a head that exists. -/
theorem tblv_apply (b : Fin 2) (w : Fin 256) (h : Fin 16) (hh : h.val < 12) :
    tblv (F := Ideal) x0 x1 x2 x3 x4 (ix3 b w h)
      = ∑ r : Fin 64, proj16 x0 x1 b ⟨w.val / 16, by omega⟩ r * proj16 x0 x2 b ⟨w.val % 16, by omega⟩ r * (x3 (ix2 ⟨h.val, hh⟩ r) * x4 (ix2 0 r)) := by
  have e : rowIx (ix3 b w h) = ix3 0 w h := by
    funext a
    match a with
    | ⟨0, _⟩ => rfl
    | ⟨1, _⟩ => rfl
    | ⟨2, _⟩ => rfl
  unfold tblv
  simp only [← pay4_apply x3 x4 h hh]
  rw [e]
  match b with
  | ⟨0, _⟩ => exact (if_pos rfl).trans (pay5_apply x0 x1 x2 x3 x4 w h)
  | ⟨1, _⟩ => exact (if_neg Nat.one_ne_zero).trans (pay6_apply x0 x1 x2 x3 x4 w h)

end Table

/-! ## What the table's call stages -/

section Stage

variable {F : FTy → Type} [FloatOps F] (V : (c : Dev nD) → (b : Ref sig .tc) → Buf (Elt F) ((c : Thread nD τ).loc b)) (c : Dev nD)

/-- The first sixteen positions of each batch, -/
theorem stg0_apply (b : Fin 2) (p : Fin 16) (k : Fin 768) :
    (stg0 V c : S2x16x768.Idx → F .f32) (ix3 b p k) = (V c main_arg0 : S2x128x768.Idx → F .f32) (ix3 b ⟨p.val, by omega⟩ k) := by
  unfold stg0
  refine congrArg (V c main_arg0 : S2x128x768.Idx → F .f32) (funext fun a => Fin.ext ?_)
  fin_cases a
  · show 0 * 2 + 1 * b.val = b.val; omega
  · show 0 * 16 + 1 * p.val = p.val; omega
  · show 0 * 768 + 1 * k.val = k.val; omega

/-- and the weights whole. -/
theorem stg1_eq : (stg1 V c : S64x768.Idx → F .f32) = V c main_arg2 := by
  funext j
  unfold stg1
  refine congrArg (V c main_arg2 : S64x768.Idx → F .f32) (funext fun a => Fin.ext ?_)
  fin_cases a
  · show 0 * 64 + 1 * (j 0).val = (j 0).val; omega
  · show 0 * 768 + 1 * (j 1).val = (j 1).val; omega
theorem stg2_eq : (stg2 V c : S64x768.Idx → F .f32) = V c main_arg3 := by
  funext j
  unfold stg2
  refine congrArg (V c main_arg3 : S64x768.Idx → F .f32) (funext fun a => Fin.ext ?_)
  fin_cases a
  · show 0 * 64 + 1 * (j 0).val = (j 0).val; omega
  · show 0 * 768 + 1 * (j 1).val = (j 1).val; omega
theorem stg3_eq : (stg3 V c : S12x64.Idx → F .f32) = V c main_arg4 := by
  funext j
  unfold stg3
  refine congrArg (V c main_arg4 : S12x64.Idx → F .f32) (funext fun a => Fin.ext ?_)
  fin_cases a
  · show 0 * 12 + 1 * (j 0).val = (j 0).val; omega
  · show 0 * 64 + 1 * (j 1).val = (j 1).val; omega
theorem stg4_eq : (stg4 V c : S1x64.Idx → F .f32) = V c main_arg5 := by
  funext j
  unfold stg4
  refine congrArg (V c main_arg5 : S1x64.Idx → F .f32) (funext fun a => Fin.ext ?_)
  fin_cases a
  · show 0 * 1 + 1 * (j 0).val = (j 0).val; omega
  · show 0 * 64 + 1 * (j 1).val = (j 1).val; omega

end Stage

end Cert.Proof.Run

end
-- ==== Proof.Ref.lean ====
/-
  The reference's value at an entry. Its three takes along the coordinates test that a row exists and fall back on a
  filler; with every coordinate in range the test always passes and a take reads the row named. What is left is one
  sum over the features.
-/
module

public import proofs.«01_k».proof.Proof.Gen.ReferenceIdeal.Run
public import Idealize.ShloMosaic.Lib.ReduceAll
public import Idealize.ShloMosaic.Lib.Affine
public import Idealize.ShloMosaic.Lib.Pointwise
public import Idealize.ShloMosaic.Lib.Tactic.CleanTypes

@[expose] public section

noncomputable section

namespace Cert.Proof.Ref

open Cert.ReferenceIdeal Cert.ReferenceIdeal.Gen

open Idealize.ShloMosaic
open Idealize.ShloMosaic.TcCoe
open scoped BigOperators

/-! ## A take's index and its test -/

/-- The rows a take asks for: a negative word counts from the end, any other is itself. -/
abbrev rowsOf (w : BitVec 32) (c : IVec S196608 32) : IVec S196608x1 32 :=
  broadcastInDim S196608x1 ![0] bcast_S196608_S196608x1_0
    (select (cmpi .slt c (broadcastInDim S196608 ![] bcast_S_S196608 (constantI S_ 32 0#32)))
      (addi c (broadcastInDim S196608 ![] bcast_S_S196608 (constantI S_ 32 w))) c)

/-- The test that a row asked for lies in `0 … u`. -/
abbrev exists? (u : BitVec 32) (ix : IVec S196608x1 32) : IVec S196608 1 :=
  Host.reduce IntOp.andi (andi (cmpi .sge ix (broadcastInDim S196608x1 ![] bcast_S_S196608x1 (constantI S_ 32 0#32)))
      (cmpi .sle ix (broadcastInDim S196608x1 ![0, 1] bcast_S1x1_S196608x1_0_1 (broadcastInDim S1x1 ![1] bcast_S1_S1x1_1 (constantI S1 32 u)))))
    (constantI S_ 1 1#1) reducesTo_S196608x1_S196608_d1 h_S_

/-- A word below twelve is not negative. -/
theorem toInt_small {x : BitVec 32} (h : x.toNat < 12) : x.toInt = x.toNat := by
  rw [BitVec.toInt_eq_toNat_cond]; omega

/-- Entry `n` of a column of rows asked for. -/
abbrev at1 (n : Fin 196608) : S196608x1.Idx := ix2 n 0

theorem rowsOf_apply (w : BitVec 32) (c : IVec S196608 32) (h : ∀ n : Fin 196608, (c (ix1 n)).toNat < 12) (n : Fin 196608) : rowsOf w c (at1 n) = c (ix1 n) := by
  have e : IntOp.cmpi .slt (c (ix1 n)) 0#32 = 0#1 := by
    have ne : ¬ IntOp.cmpi .slt (c (ix1 n)) 0#32 = 1#1 := by
      rw [IntOp.cmpi_slt, toInt_small (h n)]; simp
    exact (BitVec.eq_zero_or_eq_one _).resolve_right ne
  unfold rowsOf
  pointwise
  rw [e]
  rfl

theorem exists_one (u : BitVec 32) (hu : 12 ≤ u.toInt + 1) (ix : IVec S196608x1 32) (h : ∀ n, (ix (at1 n)).toNat < 12) (j : S196608.Idx) : exists? u ix j = 1#1 := by
  refine Host.reduce_andi_one _ _ _ _ _ rfl fun i => ?_
  have hi : (ix i).toNat < 12 := by
    have e : i = at1 (i 0) := by
      funext a
      match a with
      | ⟨0, _⟩ => rfl
      | ⟨1, _⟩ => exact Fin.ext (by have := (i 1).isLt; change (i 1).val < 1 at this; show (i 1).val = 0; omega)
    rw [e]; exact h _
  show IntOp.andi (IntOp.cmpi .sge (ix i) 0#32) (IntOp.cmpi .sle (ix i) u) = 1#1
  rw [IntOp.andi_eq_one, IntOp.cmpi_sge, IntOp.cmpi_sle, toInt_small hi]
  constructor
  · simp
  · omega

/-! ## The takes -/

/-- A take from the rows of a matrix. -/
theorem take_row {α : Type} (x : S12x64.Idx → α) (ix : IVec S196608x1 32) (n : Fin 196608) (h : (ix (at1 n)).toNat < 12) (r : Fin 64) :
    Host.gather gather_S12x64_S196608x1_S196608x64_1_0_n_n_0_1_164 x ix (ix2 n r) = x (ix2 ⟨(ix (at1 n)).toNat, h⟩ r) := by
  unfold Host.gather
  congr 1
  have hs : gather_S12x64_S196608x1_S196608x64_1_0_n_n_0_1_164.siIdx (ix2 n r) ⟨0, by decide⟩ = at1 n := by
    funext b
    match b with
    | ⟨0, _⟩ => rfl
    | ⟨1, _⟩ => rfl
  funext a
  refine Fin.ext ?_
  match a with
  | ⟨0, _⟩ =>
    show min (ix (gather_S12x64_S196608x1_S196608x64_1_0_n_n_0_1_164.siIdx (ix2 n r) ⟨0, by decide⟩)).toInt.toNat (12 - 1) + 0 + 0 = (ix (at1 n)).toNat
    rw [hs, toInt_small h]
    omega
  | ⟨1, _⟩ =>
    show 0 + 0 + r.val = r.val
    omega

/-- A take from the second axis of a box. -/
theorem take_mid {α : Type} (x : S2x128x64.Idx → α) (ix : IVec S196608x1 32) (b : Fin 2) (n : Fin 196608) (h : (ix (at1 n)).toNat < 12) (r : Fin 64) :
    Host.gather gather_S2x128x64_S196608x1_S2x196608x64_02_1_n_n_1_1_2164 x ix (ix3 b n r)
      = x (ix3 b ⟨(ix (at1 n)).toNat, Nat.lt_trans h (by decide)⟩ r) := by
  unfold Host.gather
  congr 1
  have hs : gather_S2x128x64_S196608x1_S2x196608x64_02_1_n_n_1_1_2164.siIdx (ix3 b n r) ⟨0, by decide⟩ = at1 n := by
    funext b
    match b with
    | ⟨0, _⟩ => rfl
    | ⟨1, _⟩ => rfl
  funext a
  refine Fin.ext ?_
  match a with
  | ⟨0, _⟩ =>
    show 0 + 0 + b.val = b.val
    omega
  | ⟨1, _⟩ =>
    show min (ix (gather_S2x128x64_S196608x1_S2x196608x64_02_1_n_n_1_1_2164.siIdx (ix3 b n r) ⟨0, by decide⟩)).toInt.toNat (128 - 1) + 0 + 0 = (ix (at1 n)).toNat
    rw [hs, toInt_small h]
    omega
  | ⟨2, _⟩ =>
    show 0 + 0 + r.val = r.val
    omega

/-! ## The value -/

section Value

variable (a0 : FVec Ideal S2x128x768 .f32) (x : IVec S196608x3 32) (a2 a3 : FVec Ideal S64x768 .f32) (a4 : FVec Ideal S12x64 .f32) (a5 : FVec Ideal S1x64 .f32)

abbrev col0 : IVec S196608 32 := shapeCast S196608 (extractStridedSlice S196608x1 ![0, 0] x slices_S196608x3_S196608x1_0_0) shapeCasts_S196608x1_S196608
abbrev col1 : IVec S196608 32 := shapeCast S196608 (extractStridedSlice S196608x1 ![0, 1] x slices_S196608x3_S196608x1_0_1) shapeCasts_S196608x1_S196608
abbrev col2 : IVec S196608 32 := shapeCast S196608 (extractStridedSlice S196608x1 ![0, 2] x slices_S196608x3_S196608x1_0_2) shapeCasts_S196608x1_S196608

/-- The rows of the heads' matrix that the entries name, -/
def heads : FVec Ideal S196608x64 .f32 :=
  select (broadcastInDim S196608x64 ![0] bcast_S196608_S196608x64_0 (exists? 11#32 (rowsOf 12#32 (col0 x))))
    (Host.gather gather_S12x64_S196608x1_S196608x64_1_0_n_n_0_1_164 a4 (rowsOf 12#32 (col0 x)))
    (broadcastInDim S196608x64 ![] bcast_S_S196608x64 (constant S_ .f32 0x7FC00000#32))

/-- and the rows of a projection of the sequence. -/
def rows (w : FVec Ideal S64x768 .f32) (c : IVec S196608 32) : FVec Ideal S2x196608x64 .f32 :=
  select (broadcastInDim S2x196608x64 ![1] bcast_S196608_S2x196608x64_1 (exists? 127#32 (rowsOf 128#32 c)))
    (Host.gather gather_S2x128x64_S196608x1_S2x196608x64_02_1_n_n_1_1_2164
      (Host.dotGeneral dot_S2x128x768_S768x64_S2x128x64_2_0_01_1_n_n none a0 (transpose S768x64 [1, 0] w transposes_S64x768_S768x64_1_0)) (rowsOf 128#32 c))
    (broadcastInDim S2x196608x64 ![] bcast_S_S2x196608x64 (constant S_ .f32 0x7FC00000#32))

/-- The reference's result. -/
def out : FVec Ideal S2x12x128x128 .f32 :=
  shapeCast _ (shapeCast _ (Host.dotGeneral dot_S2x196608x64_S64x1_S2x196608x1_2_0_01_1_n_n none
    (mulf (mulf (broadcastInDim S2x196608x64 ![0, 1, 2] bcast_S1x196608x64_S2x196608x64_0_1_2 (broadcastInDim S1x196608x64 ![1, 2] bcast_S196608x64_S1x196608x64_1_2 (heads x a4)))
      (rows a0 a2 (col1 x))) (rows a0 a3 (col2 x)))
    (transpose S64x1 [1, 0] a5 transposes_S1x64_S64x1_1_0)) shapeCasts_S2x196608x1_S2x12x128x128x1) shapeCasts_S2x12x128x128x1_S2x12x128x128

/-- One feature of one position of a projection. -/
def proj (w : FVec Ideal S64x768 .f32) (b : Fin 2) (p : Fin 128) (r : Fin 64) : EReal := ∑ k : Fin 768, a0 (ix3 b p k) * w (ix2 r k)

variable (h : ∀ j, (x j).toNat < 12)
include h

theorem heads_apply (n : Fin 196608) (r : Fin 64) : heads x a4 (ix2 n r) = a4 (ix2 ⟨(x (ix2 n 0)).toNat, h _⟩ r) := by
  have hc : ∀ n : Fin 196608, col0 x (ix1 n) = x (ix2 n 0) := fun n => by unfold col0; pointwise
  have hr : ∀ n, rowsOf 12#32 (col0 x) (at1 n) = x (ix2 n 0) := fun n => by
    rw [rowsOf_apply _ _ (fun n => by rw [hc]; exact h _), hc]
  unfold heads
  rw [show exists? 11#32 (rowsOf 12#32 (col0 x)) = fun _ => 1#1 from
    funext fun j => exists_one _ (by decide) _ (fun n => by rw [hr]; exact h _) j]
  refine (take_row a4 (rowsOf 12#32 (col0 x)) n (by rw [hr]; exact h _) r).trans ?_
  congr 2
  exact Fin.ext (congrArg BitVec.toNat (hr n))

theorem rows_apply (w : FVec Ideal S64x768 .f32) (k : Fin 3) (c : IVec S196608 32) (hc : ∀ n : Fin 196608, c (ix1 n) = x (ix2 n k)) (b : Fin 2) (n : Fin 196608) (r : Fin 64) :
    rows a0 w c (ix3 b n r) = proj a0 w b ⟨(x (ix2 n k)).toNat, Nat.lt_trans (h _) (by decide)⟩ r := by
  have hr : ∀ n, rowsOf 128#32 c (at1 n) = x (ix2 n k) := fun n => by
    rw [rowsOf_apply _ _ (fun n => by rw [hc]; exact h _), hc]
  unfold rows
  rw [show exists? 127#32 (rowsOf 128#32 c) = fun _ => 1#1 from
    funext fun j => exists_one _ (by decide) _ (fun n => by rw [hr]; exact h _) j]
  refine (take_mid (Host.dotGeneral dot_S2x128x768_S768x64_S2x128x64_2_0_01_1_n_n none a0 (transpose S768x64 [1, 0] w transposes_S64x768_S768x64_1_0)) (rowsOf 128#32 c) b n (by rw [hr]; exact h _) r).trans ?_
  rw [show (⟨(rowsOf 128#32 c (at1 n)).toNat, Nat.lt_trans (by rw [hr]; exact h _) (by decide)⟩ : Fin 128)
      = ⟨(x (ix2 n k)).toNat, Nat.lt_trans (h _) (by decide)⟩ from Fin.ext (congrArg BitVec.toNat (hr n))]
  unfold proj
  pointwise

/-- The reference's value at an entry. -/
theorem out_apply (b : Fin 2) (i : Fin 12) (p q : Fin 128) (n : Fin 196608) (hn : n.val = i.val * 16384 + p.val * 128 + q.val) :
    out a0 x a2 a3 a4 a5 (ix4 b i p q) = ∑ r : Fin 64, a4 (ix2 ⟨(x (ix2 n 0)).toNat, h _⟩ r)
        * proj a0 a2 b ⟨(x (ix2 n 1)).toNat, Nat.lt_trans (h _) (by decide)⟩ r
        * proj a0 a3 b ⟨(x (ix2 n 2)).toNat, Nat.lt_trans (h _) (by decide)⟩ r * a5 (ix2 0 r) := by
  obtain ⟨n, hlt⟩ := n
  change n = _ at hn
  subst hn
  unfold out
  pointwise
  refine Finset.sum_congr rfl fun r _ => ?_
  rw [heads_apply x a4 h, rows_apply a0 x h a2 1 (col1 x) (fun n => by unfold col1; pointwise), rows_apply a0 x h a3 2 (col2 x) (fun n => by unfold col2; pointwise)]

end Value

/-- The reference's run leaves this value. -/
theorem result_eq (m : (ℓ : Loc nD τ sig) → Buf (Elt Ideal) ℓ) (c : Dev nD) :
    (Cert.ReferenceIdeal.Value.res_out0 m c : S2x12x128x128.Idx → EReal)
      = out (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  unfold Cert.ReferenceIdeal.Value.res_out0 Cert.ReferenceIdeal.Value.res_main_v20 out heads rows
  rfl

end Cert.Proof.Ref

end
-- ==== Proof.Algebra.lean ====
/-
  The kernel's result and the reference's, equal entry by entry at ideal values. An index word names a table entry;
  the table entry is the reference's sum with its factors taken in another order.
-/
module

public import proofs.«01_k».proof.Defs
public import proofs.«01_k».proof.Proof.Table
public import proofs.«01_k».proof.Proof.Ref

@[expose] public section

noncomputable section

namespace Cert.Proof.Run

open Cert.KernelIdeal Cert.KernelIdeal.Gen

open Idealize.ShloMosaic Idealize.SL.Sem
open Idealize.ShloMosaic.TcCoe
open scoped BigOperators

variable (m : (ℓ : Loc nD τ sig) → Buf (Elt Ideal) ℓ) (d : Dev nD)

/-- The arguments besides the coordinates. -/
abbrev hid : S2x128x768.Idx → EReal := m ((d.tc : Thread nD τ).loc main_arg0)
abbrev wt1 : S64x768.Idx → EReal := m ((d.tc : Thread nD τ).loc main_arg2)
abbrev wt2 : S64x768.Idx → EReal := m ((d.tc : Thread nD τ).loc main_arg3)
abbrev hd : S12x64.Idx → EReal := m ((d.tc : Thread nD τ).loc main_arg4)
abbrev cp : S1x64.Idx → EReal := m ((d.tc : Thread nD τ).loc main_arg5)

/-- A projection of a staged position is the projection of that position. -/
theorem proj16_eq (w : S64x768.Idx → EReal) (b : Fin 2) (p : Fin 16) (r : Fin 64) :
    proj16 (stg0 (Vin m) d) w b p r = Ref.proj (hid m d) w b ⟨p.val, by omega⟩ r :=
  Finset.sum_congr rfl fun k _ => congrArg (· * w (ix2 r k)) (stg0_apply (Vin m) d b p k)

/-- The table at batch `b`, positions `p` and `q`, head `h`. -/
theorem table_apply (b : Fin 2) (p q : Fin 16) (h : Fin 12) (w : Fin 256) (hw : w.val = p.val * 16 + q.val) (h' : Fin 16) (hh : h'.val = h.val) :
    (table m d : S2x256x16.Idx → EReal) (ix3 b w h')
      = ∑ r : Fin 64, Ref.proj (hid m d) (wt1 m d) b ⟨p.val, by omega⟩ r * Ref.proj (hid m d) (wt2 m d) b ⟨q.val, by omega⟩ r * (hd m d (ix2 h r) * cp m d (ix2 0 r)) := by
  refine (tblv_apply (stg0 (Vin m) d) (stg1 (Vin m) d) (stg2 (Vin m) d) (stg3 (Vin m) d) (stg4 (Vin m) d) b w h' (by omega)).trans ?_
  rw [stg1_eq, stg2_eq, stg3_eq, stg4_eq]
  refine Finset.sum_congr rfl fun r _ => ?_
  rw [proj16_eq, proj16_eq]
  rw [show (⟨w.val / 16, by omega⟩ : Fin 16) = p from Fin.ext (by show w.val / 16 = p.val; omega),
    show (⟨w.val % 16, by omega⟩ : Fin 16) = q from Fin.ext (by show w.val % 16 = q.val; omega),
    show (⟨h'.val, by omega⟩ : Fin 12) = h from Fin.ext hh]

/-- The flat table at the entry an index word names. -/
theorem tv_apply (b : Fin 2) (p q : Fin 16) (h : Fin 12) (k : ℕ) (hk : k = b.val * 4096 + (p.val * 256 + q.val * 16 + h.val)) :
    (tv m d : S8192.Idx → EReal) (tabIx k)
      = ∑ r : Fin 64, Ref.proj (hid m d) (wt1 m d) b ⟨p.val, by omega⟩ r * Ref.proj (hid m d) (wt2 m d) b ⟨q.val, by omega⟩ r * (hd m d (ix2 h r) * cp m d (ix2 0 r)) := by
  have e : tabIx k = ix1 ⟨b.val * 4096 + (p.val * 256 + q.val * 16 + h.val), by omega⟩ := by
    funext a
    match a with
    | ⟨0, _⟩ => exact Fin.ext (by show k % 8192 = b.val * 4096 + (p.val * 256 + q.val * 16 + h.val); omega)
  rw [tv_eq, e, ← table_apply m d b p q h ⟨p.val * 16 + q.val, by omega⟩ rfl ⟨h.val, by omega⟩ rfl]
  pointwise
  exact congrArg₂ (fun w h' => (table m d : S2x256x16.Idx → EReal) (ix3 b w h'))
    (Fin.ext (by show (b.val * 4096 + (p.val * 256 + q.val * 16 + h.val)) / 16 % 256 = p.val * 16 + q.val; omega))
    (Fin.ext (by show (b.val * 4096 + (p.val * 256 + q.val * 16 + h.val)) % 16 = h.val; omega))

/-- Entry `c` of half `b` of the gathered array. -/
theorem gathered_apply (iv : S196608.Idx → BitVec 32) (tv : S8192.Idx → EReal) (b : Fin 2) (c : Fin 196608) (n : Fin 393216) (hn : n.val = b.val * 196608 + c.val) :
    gathered (F := Ideal) iv tv (ix1 n) = tv (tabIx ((iv (ix1 c)).toNat + b.val * 4096)) := by
  have e : ∀ k, k = c.val → idxIx k = ix1 c := fun k hk => by
    funext a
    match a with
    | ⟨0, _⟩ => exact Fin.ext (by show k % 196608 = c.val; omega)
  have hb := b.isLt
  show (if n.val < 196608 then tv (tabIx (iv (idxIx n.val)).toNat) else tv (tabIx ((iv (idxIx (n.val - 196608))).toNat + 4096))) = _
  by_cases h0 : b.val = 0
  · rw [if_pos (by omega), e _ (by omega), h0, Nat.zero_mul, Nat.add_zero]
  · rw [if_neg (by omega), e _ (by omega), show b.val = 1 by omega]

/-- The kernel's result at an entry: an entry of the table. -/
theorem res_apply (b : Fin 2) (i : Fin 12) (p q : Fin 128) (n : Fin 196608) (hn : n.val = i.val * 16384 + p.val * 128 + q.val) :
    (W4 m d (Proc.devRef .tc main_v15) : S2x12x128x128.Idx → EReal) (ix4 b i p q)
      = (tv m d : S8192.Idx → EReal) (tabIx (((iv m d : S196608.Idx → BitVec 32) (ix1 n)).toNat + b.val * 4096)) := by
  obtain ⟨n, hlt⟩ := n
  change n = _ at hn
  subst hn
  rw [out_eq]
  pointwise
  exact gathered_apply (iv m d) (tv m d) b ⟨i.val * 16384 + p.val * 128 + q.val, hlt⟩ _
    (by show b.val * 196608 + i.val * 16384 + p.val * 128 + q.val = b.val * 196608 + (i.val * 16384 + p.val * 128 + q.val); omega)

/-- The two results are one array. -/
theorem res_eq (h : Small (coords m d)) :
    (W4 m d (Proc.devRef .tc main_v15) : S2x12x128x128.Idx → EReal)
      = Ref.out (hid m d) (coords m d) (wt1 m d) (wt2 m d) (hd m d) (cp m d) := by
  funext j
  obtain ⟨b, i, p, q, rfl⟩ : ∃ (b : Fin 2) (i : Fin 12) (p q : Fin 128), j = ix4 b i p q := ⟨j 0, j 1, j 2, j 3, eq_ix4 j⟩
  have hlt : i.val * 16384 + p.val * 128 + q.val < 196608 := by omega
  generalize hn : (⟨i.val * 16384 + p.val * 128 + q.val, hlt⟩ : Fin 196608) = n
  have hn' : n.val = i.val * 16384 + p.val * 128 + q.val := by rw [← hn]
  have h0 := h (ix2 n 0); have h1 := h (ix2 n 1); have h2 := h (ix2 n 2)
  rw [res_apply m d b i p q n hn']
  refine Eq.trans (α := EReal) (tv_apply m d b ⟨(coords m d (ix2 n 1)).toNat, by omega⟩ ⟨(coords m d (ix2 n 2)).toNat, by omega⟩ ⟨(coords m d (ix2 n 0)).toNat, h0⟩ _ ?_) ?_
  · rw [iv_toNat m d h]
    show (coords m d (ix2 n 1)).toNat * 256 + (coords m d (ix2 n 2)).toNat * 16 + (coords m d (ix2 n 0)).toNat + b.val * 4096
      = b.val * 4096 + ((coords m d (ix2 n 1)).toNat * 256 + (coords m d (ix2 n 2)).toNat * 16 + (coords m d (ix2 n 0)).toNat)
    omega
  · refine Eq.trans (α := EReal) ?_ (Ref.out_apply (hid m d) (coords m d) (wt1 m d) (wt2 m d) (hd m d) (cp m d) h b i p q n hn').symm
    refine Finset.sum_congr rfl fun r _ => ?_
    generalize Ref.proj (hid m d) (wt1 m d) b _ r = x
    generalize Ref.proj (hid m d) (wt2 m d) b _ r = y
    show x * y * (hd m d _ * cp m d _) = hd m d _ * x * y * cp m d _
    rw [← mul_assoc, mul_comm (x * y), ← mul_assoc]

end Cert.Proof.Run

namespace Cert.Proof

open Idealize.ShloMosaic Idealize.SL.Sem Idealize.ShloMosaic.TcCoe

/-- The kernel and the reference at ideal values. -/
theorem algebra : Cert.algebraic_KernelIdeal_ReferenceIdeal := fun m g m' g' hp ha => by
  have h : ∀ d, Run.Small (Run.coords (F := Ideal) m d) := fun d => Run.small_of_pre _ _ _ _ _ _ (hp d)
  refine ⟨fun c => Run.W4 (F := Ideal) m c (Proc.devRef .tc Cert.KernelIdeal.main_v15), ?_, ?_⟩
  · exact (θ_run Cert.KernelIdeal.defs _ _).mono (fun _ h => h.1) (Run.run_main (F := Ideal) m g h)
  · refine (θ_run Cert.ReferenceIdeal.defs _ _).mono (fun r hr c => ⟨?_, (hr c).2⟩) (Cert.ReferenceIdeal.Value.run (F := Ideal) m' g')
    refine (hr c).1.trans ((Ref.result_eq m' c).trans ?_)
    obtain ⟨e0, e1, e2, e3, e4, e5⟩ := ha c
    rw [e0, e1, e2, e3, e4, e5]
    exact (Run.res_eq m c (h c)).symm

end Cert.Proof

end
-- ==== Proof.lean ====
/-
  The five claims about the head-mode gather: the kernel's run as compiled and at ideal values, the reference's run,
  and the equality of their results at ideal values.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_range
public import proofs.«01_k».proof.Proof.Frames
public import proofs.«01_k».proof.Proof.Algebra
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_in_range.Gen.facts,
  frame_kernel, frame_ideal, frame_reference, fun m g _ => frame_reference m g trivial, trivial, algebra⟩

end Cert.Proof

end
